-- ==== Defs.lean ====
def Pre_Kernel [hPre_in_plane : Cert.Pre_in_plane.Facts] (m : (ℓ : Loc Cert.Kernel.nD Cert.Kernel.τ Cert.Kernel.sig) → Buf (Elt Bits) ℓ) : Prop :=
  ∀ c : Dev Cert.Kernel.nD,
    (Cert.Pre_in_plane.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_plane : Cert.Pre_in_plane.Facts] (m : (ℓ : Loc Cert.KernelIdeal.nD Cert.KernelIdeal.τ Cert.KernelIdeal.sig) → Buf (Elt Ideal) ℓ) : Prop :=
  ∀ c : Dev Cert.KernelIdeal.nD,
    (Cert.Pre_in_plane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_own_channel [hPre_own_channel : Cert.Pre_own_channel.Facts] (m : (ℓ : Loc Cert.KernelIdeal.nD Cert.KernelIdeal.τ Cert.KernelIdeal.sig) → Buf (Elt Ideal) ℓ) : Prop :=
  ∀ c : Dev Cert.KernelIdeal.nD,
    (Cert.Pre_own_channel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_channel [hPre_own_channel : Cert.Pre_own_channel.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_channel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_plane : Cert.Pre_in_plane.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_plane : Cert.Pre_in_plane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_own_channel [hKernelIdeal : Cert.KernelIdeal.Facts] [hPre_own_channel : Cert.Pre_own_channel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_own_channel m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_own_channel [hReferenceIdeal : Cert.ReferenceIdeal.Facts] [hPre_own_channel : Cert.Pre_own_channel.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_channel m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_own_channel [hKernelIdeal : Cert.KernelIdeal.Facts] [hReferenceIdeal : Cert.ReferenceIdeal.Facts] [hPre_own_channel : Cert.Pre_own_channel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_own_channel m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_plane : Cert.Pre_in_plane.Facts) (hPre_own_channel : Cert.Pre_own_channel.Facts),
    quiescent_Kernel (hKernel := hKernel) (hPre_in_plane := hPre_in_plane)
    ∧ quiescent_KernelIdeal (hKernelIdeal := hKernelIdeal) (hPre_in_plane := hPre_in_plane)
    ∧ quiescent_KernelIdeal_pre_own_channel (hKernelIdeal := hKernelIdeal) (hPre_own_channel := hPre_own_channel)
    ∧ quiescent_ReferenceIdeal (hReferenceIdeal := hReferenceIdeal)
    ∧ quiescent_ReferenceIdeal_pre_own_channel (hReferenceIdeal := hReferenceIdeal) (hPre_own_channel := hPre_own_channel)
    ∧ preserves_Kernel_KernelIdeal
    ∧ algebraic_KernelIdeal_ReferenceIdeal_pre_own_channel (hKernelIdeal := hKernelIdeal) (hReferenceIdeal := hReferenceIdeal) (hPre_own_channel := hPre_own_channel)
-- ==== Pre_in_plane.lean ====
abbrev S32x192x56x56 : Shape := ⟨4, ![32, 192, 56, 56]⟩
abbrev S192x56x56 : Shape := ⟨3, ![192, 56, 56]⟩
abbrev S2x192x56x56 : Shape := ⟨4, ![2, 192, 56, 56]⟩
abbrev S_ : Shape := ⟨0, ![]⟩

class Facts : Prop where
  bcast_S_S2x192x56x56 : S_.BroadcastsInDim S2x192x56x56 (![] : Fin 0 → Fin S2x192x56x56.rank)
  reducesTo_S2x192x56x56_S_d0_1_2_3 : S2x192x56x56.ReducesTo [0, 1, 2, 3] S_
  h_S_ : 0 < S_.numel

variable [Facts]

def fn {F : FTy → Type} [FloatOps F] (main_arg0 : FVec F S32x192x56x56 .f32) (main_arg1 : FVec F S192x56x56 .f32) (main_arg2 : IVec S2x192x56x56 32) (main_arg3 : IVec S192x56x56 32) : IVec S_ 1 :=
  let main_c : IVec S_ 32 := constantI S_ 32 0#32
  let main_v0 : IVec S2x192x56x56 32 := broadcastInDim S2x192x56x56 ![] bcast_S_S2x192x56x56 main_c
  let main_v1 : IVec S2x192x56x56 1 := cmpi .sge main_arg2 main_v0
  let main_c_0 : IVec S_ 1 := constantI S_ 1 1#1
  let main_v2 : IVec S_ 1 := (fun x v => Host.reduce IntOp.andi x v reducesTo_S2x192x56x56_S_d0_1_2_3 h_S_) main_v1 main_c_0
  let main_c_1 : IVec S_ 32 := constantI S_ 32 56#32
  let main_v3 : IVec S2x192x56x56 32 := broadcastInDim S2x192x56x56 ![] bcast_S_S2x192x56x56 main_c_1
  let main_v4 : IVec S2x192x56x56 1 := cmpi .slt main_arg2 main_v3
  let main_c_2 : IVec S_ 1 := constantI S_ 1 1#1
  let main_v5 : IVec S_ 1 := (fun x v => Host.reduce IntOp.andi x v reducesTo_S2x192x56x56_S_d0_1_2_3 h_S_) main_v4 main_c_2
  let main_v6 : IVec S_ 1 := andi main_v2 main_v5
  main_v6
-- ==== Pre_own_channel.lean ====
abbrev S32x192x56x56 : Shape := ⟨4, ![32, 192, 56, 56]⟩
abbrev S192x56x56 : Shape := ⟨3, ![192, 56, 56]⟩
abbrev S2x192x56x56 : Shape := ⟨4, ![2, 192, 56, 56]⟩
abbrev S_ : Shape := ⟨0, ![]⟩

class Facts : Prop where
  bcast_S_S2x192x56x56 : S_.BroadcastsInDim S2x192x56x56 (![] : Fin 0 → Fin S2x192x56x56.rank)
  reducesTo_S2x192x56x56_S_d0_1_2_3 : S2x192x56x56.ReducesTo [0, 1, 2, 3] S_
  h_S_ : 0 < S_.numel
  reducesTo_S192x56x56_S_d0_1_2 : S192x56x56.ReducesTo [0, 1, 2] S_

variable [Facts]

def fn {F : FTy → Type} [FloatOps F] (main_arg0 : FVec F S32x192x56x56 .f32) (main_arg1 : FVec F S192x56x56 .f32) (main_arg2 : IVec S2x192x56x56 32) (main_arg3 : IVec S192x56x56 32) : IVec S_ 1 :=
  let main_v0 : IVec S192x56x56 32 := iotaInDim S192x56x56 32 0
  let main_c : IVec S_ 32 := constantI S_ 32 0#32
  let main_v1 : IVec S2x192x56x56 32 := broadcastInDim S2x192x56x56 ![] bcast_S_S2x192x56x56 main_c
  let main_v2 : IVec S2x192x56x56 1 := cmpi .sge main_arg2 main_v1
  let main_c_0 : IVec S_ 1 := constantI S_ 1 1#1
  let main_v3 : IVec S_ 1 := (fun x v => Host.reduce IntOp.andi x v reducesTo_S2x192x56x56_S_d0_1_2_3 h_S_) main_v2 main_c_0
  let main_c_1 : IVec S_ 32 := constantI S_ 32 56#32
  let main_v4 : IVec S2x192x56x56 32 := broadcastInDim S2x192x56x56 ![] bcast_S_S2x192x56x56 main_c_1
  let main_v5 : IVec S2x192x56x56 1 := cmpi .slt main_arg2 main_v4
  let main_c_2 : IVec S_ 1 := constantI S_ 1 1#1
  let main_v6 : IVec S_ 1 := (fun x v => Host.reduce IntOp.andi x v reducesTo_S2x192x56x56_S_d0_1_2_3 h_S_) main_v5 main_c_2
  let main_v7 : IVec S_ 1 := andi main_v3 main_v6
  let main_v8 : IVec S192x56x56 1 := cmpi .eq main_arg3 main_v0
  let main_c_3 : IVec S_ 1 := constantI S_ 1 1#1
  let main_v9 : IVec S_ 1 := (fun x v => Host.reduce IntOp.andi x v reducesTo_S192x56x56_S_d0_1_2 h_S_) main_v8 main_c_3
  let main_v10 : IVec S_ 1 := andi main_v7 main_v9
  main_v10
-- ==== Kernel.lean ====
abbrev S32x192x56x56 : Shape := ⟨4, ![32, 192, 56, 56]⟩
abbrev S192x56x56 : Shape := ⟨3, ![192, 56, 56]⟩
abbrev S2x192x56x56 : Shape := ⟨4, ![2, 192, 56, 56]⟩
abbrev S19267584 : Shape := ⟨1, ![19267584]⟩
abbrev S1x192x56x56 : Shape := ⟨4, ![1, 192, 56, 56]⟩
abbrev S602112 : Shape := ⟨1, ![602112]⟩
abbrev S18816 : Shape := ⟨1, ![18816]⟩
abbrev S_ : Shape := ⟨0, ![]⟩
abbrev S16 : Shape := ⟨1, ![16]⟩

abbrev nBuf : Table → Nat
  | .hbm => 14
  | .local .scVector .vmem => 5
  | _ => 0

abbrev bufTy : (tb : Table) → Fin (nBuf tb) → BufTy
  | .hbm, ⟨0, _⟩ => ⟨S32x192x56x56, .f32⟩
  | .hbm, ⟨1, _⟩ => ⟨S192x56x56, .f32⟩
  | .hbm, ⟨2, _⟩ => ⟨S2x192x56x56, .i32⟩
  | .hbm, ⟨3, _⟩ => ⟨S192x56x56, .i32⟩
  | .hbm, ⟨4, _⟩ => ⟨S19267584, .f32⟩
  | .hbm, ⟨5, _⟩ => ⟨S1x192x56x56, .i32⟩
  | .hbm, ⟨6, _⟩ => ⟨S192x56x56, .i32⟩
  | .hbm, ⟨7, _⟩ => ⟨S602112, .i32⟩
  | .hbm, ⟨8, _⟩ => ⟨S1x192x56x56, .i32⟩
  | .hbm, ⟨9, _⟩ => ⟨S192x56x56, .i32⟩
  | .hbm, ⟨10, _⟩ => ⟨S602112, .i32⟩
  | .hbm, ⟨11, _⟩ => ⟨S602112, .f32⟩
  | .hbm, ⟨12, _⟩ => ⟨S19267584, .f32⟩
  | .hbm, ⟨13, _⟩ => ⟨S32x192x56x56, .f32⟩
  | .local .scVector .vmem, ⟨0, _⟩ => ⟨S18816, .i32⟩
  | .local .scVector .vmem, ⟨1, _⟩ => ⟨S18816, .i32⟩
  | .local .scVector .vmem, ⟨2, _⟩ => ⟨S18816, .f32⟩
  | .local .scVector .vmem, ⟨3, _⟩ => ⟨S18816, .f32⟩
  | .local .scVector .vmem, ⟨4, _⟩ => ⟨S18816, .f32⟩
  | _, _ => ⟨S32x192x56x56, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v0_scv : Ref sig .scVector := ⟨.hbm, 4, rfl⟩
abbrev main_v3_scv : Ref sig .scVector := ⟨.hbm, 7, rfl⟩
abbrev main_v6_scv : Ref sig .scVector := ⟨.hbm, 10, rfl⟩
abbrev main_v7_scv : Ref sig .scVector := ⟨.hbm, 11, rfl⟩
abbrev main_v8_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18816_i32 : BitVec 32 := 18816#32
  let v2 : BitVec 32 := Scalar.muli v1 c18816_i32
  ![v2.toNat]
@[reducible] def k0_t1_loop : Scf.Loop 32 :=
  let c0_i32_0 : BitVec 32 := 0#32
  let c6_i32 : BitVec 32 := 6#32
  let v3 : BitVec 32 := Scalar.addi c0_i32_0 c6_i32
  let c1_i32 : BitVec 32 := 1#32
  ⟨c0_i32_0, v3, c1_i32⟩
@[reducible] def k0_t2_loop : Scf.Loop 32 :=
  let c0_i32_7 : BitVec 32 := 0#32
  let c196_i32 : BitVec 32 := 196#32
  let v7 : BitVec 32 := Scalar.addi c0_i32_7 c196_i32
  let c1_i32_8 : BitVec 32 := 1#32
  ⟨c0_i32_7, v7, c1_i32_8⟩
def k0_off2 (k0_t1 : Fin k0_t1_loop.trips) (k0_t2 : Fin k0_t2_loop.trips) : Fin 1 → Nat :=
  let c0_i32_0 : BitVec 32 := 0#32
  let c1_i32 : BitVec 32 := 1#32
  let arg12 : BitVec 32 := Scf.iv c0_i32_0 c1_i32 k0_t1
  let c196_i32_10 : BitVec 32 := 196#32
  let v9 : BitVec 32 := Scalar.muli arg12 c196_i32_10
  let c0_i32_7 : BitVec 32 := 0#32
  let c1_i32_8 : BitVec 32 := 1#32
  let arg14 : BitVec 32 := Scf.iv c0_i32_7 c1_i32_8 k0_t2
  let v10 : BitVec 32 := Scalar.addi v9 arg14
  let c16_i32 : BitVec 32 := 16#32
  let v11 : BitVec 32 := Scalar.muli v10 c16_i32
  let v12 : Index := Scalar.indexCast v11
  ![v12.toNat]
@[reducible] def k0_t3_loop : Scf.Loop 32 :=
  let c0_i32_3 : BitVec 32 := 0#32
  let c32_i32 : BitVec 32 := 32#32
  let v5 : BitVec 32 := Scalar.addi c0_i32_3 c32_i32
  let c1_i32_4 : BitVec 32 := 1#32
  ⟨c0_i32_3, v5, c1_i32_4⟩
def k0_off3 (i : grid0.Coords) (k0_t3 : Fin k0_t3_loop.trips) : Fin 1 → Nat :=
  let c0_i32_3 : BitVec 32 := 0#32
  let c1_i32_4 : BitVec 32 := 1#32
  let arg12 : BitVec 32 := Scf.iv c0_i32_3 c1_i32_4 k0_t3
  let c602112_i32 : BitVec 32 := 602112#32
  let v7 : BitVec 32 := Scalar.muli arg12 c602112_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18816_i32 : BitVec 32 := 18816#32
  let v2 : BitVec 32 := Scalar.muli v1 c18816_i32
  let v8 : BitVec 32 := Scalar.addi v7 v2
  ![v8.toNat]
@[reducible] def k0_t4_loop : Scf.Loop 32 :=
  let c0_i32_7 : BitVec 32 := 0#32
  let c1176_i32 : BitVec 32 := 1176#32
  let v9 : BitVec 32 := Scalar.addi c0_i32_7 c1176_i32
  let c1_i32_8 : BitVec 32 := 1#32
  ⟨c0_i32_7, v9, c1_i32_8⟩
def k0_off4 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c16_i32 : BitVec 32 := 16#32
  let v11 : BitVec 32 := Scalar.muli arg14 c16_i32
  let v12 : Index := Scalar.indexCast v11
  ![v12.toNat]

def k0_chk1 (v17 : IVec S16 32) : Prop :=
  (∀ a x, ((![v17] : Fin 1 → IVec S16 32) a x).toNat < S18816.size a)
theorem k0_idx1_inb : ∀ (v17 : IVec S16 32) (k0_hw1 : k0_chk1 v17), ∀ a x, ((![v17] : Fin 1 → IVec S16 32) a x).toNat < S18816.size a := fun v17 k0_hw1 => k0_hw1
def k0_off5 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c16_i32 : BitVec 32 := 16#32
  let v11 : BitVec 32 := Scalar.muli arg14 c16_i32
  let v28 : Index := Scalar.indexCast v11
  ![v28.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x192x56x56 : Shape := ⟨4, ![32, 192, 56, 56]⟩
abbrev S192x56x56 : Shape := ⟨3, ![192, 56, 56]⟩
abbrev S2x192x56x56 : Shape := ⟨4, ![2, 192, 56, 56]⟩
abbrev S1x192x56x56 : Shape := ⟨4, ![1, 192, 56, 56]⟩
abbrev S_ : Shape := ⟨0, ![]⟩
abbrev S192x56x56x1 : Shape := ⟨4, ![192, 56, 56, 1]⟩
abbrev S192x56x56x3 : Shape := ⟨4, ![192, 56, 56, 3]⟩

abbrev nBuf : Space → Nat
  | .hbm => 49
  | .vmem => 0
  | .smem => 0
  | _ => 0

abbrev bufTy : (tb : Table) → Fin (tcTables nBuf tb) → BufTy
  | .hbm, ⟨0, _⟩ => ⟨S32x192x56x56, .f32⟩
  | .hbm, ⟨1, _⟩ => ⟨S192x56x56, .f32⟩
  | .hbm, ⟨2, _⟩ => ⟨S2x192x56x56, .i32⟩
  | .hbm, ⟨3, _⟩ => ⟨S192x56x56, .i32⟩
  | .hbm, ⟨4, _⟩ => ⟨S1x192x56x56, .i32⟩
  | .hbm, ⟨5, _⟩ => ⟨S192x56x56, .i32⟩
  | .hbm, ⟨6, _⟩ => ⟨S1x192x56x56, .i32⟩
  | .hbm, ⟨7, _⟩ => ⟨S192x56x56, .i32⟩
  | .hbm, ⟨8, _⟩ => ⟨S_, .i32⟩
  | .hbm, ⟨9, _⟩ => ⟨S192x56x56, .i32⟩
  | .hbm, ⟨10, _⟩ => ⟨S192x56x56, .i1⟩
  | .hbm, ⟨11, _⟩ => ⟨S_, .i32⟩
  | .hbm, ⟨12, _⟩ => ⟨S192x56x56, .i32⟩
  | .hbm, ⟨13, _⟩ => ⟨S192x56x56, .i32⟩
  | .hbm, ⟨14, _⟩ => ⟨S192x56x56, .i32⟩
  | .hbm, ⟨15, _⟩ => ⟨S_, .i32⟩
  | .hbm, ⟨16, _⟩ => ⟨S192x56x56, .i32⟩
  | .hbm, ⟨17, _⟩ => ⟨S192x56x56, .i1⟩
  | .hbm, ⟨18, _⟩ => ⟨S_, .i32⟩
  | .hbm, ⟨19, _⟩ => ⟨S192x56x56, .i32⟩
  | .hbm, ⟨20, _⟩ => ⟨S192x56x56, .i32⟩
  | .hbm, ⟨21, _⟩ => ⟨S192x56x56, .i32⟩
  | .hbm, ⟨22, _⟩ => ⟨S_, .i32⟩
  | .hbm, ⟨23, _⟩ => ⟨S192x56x56, .i32⟩
  | .hbm, ⟨24, _⟩ => ⟨S192x56x56, .i1⟩
  | .hbm, ⟨25, _⟩ => ⟨S_, .i32⟩
  | .hbm, ⟨26, _⟩ => ⟨S192x56x56, .i32⟩
  | .hbm, ⟨27, _⟩ => ⟨S192x56x56, .i32⟩
  | .hbm, ⟨28, _⟩ => ⟨S192x56x56, .i32⟩
  | .hbm, ⟨29, _⟩ => ⟨S192x56x56x1, .i32⟩
  | .hbm, ⟨30, _⟩ => ⟨S192x56x56x1, .i32⟩
  | .hbm, ⟨31, _⟩ => ⟨S192x56x56x1, .i32⟩
  | .hbm, ⟨32, _⟩ => ⟨S192x56x56x3, .i32⟩
  | .hbm, ⟨33, _⟩ => ⟨S32x192x56x56, .f32⟩
  | .hbm, ⟨34, _⟩ => ⟨S_, .f32⟩
  | .hbm, ⟨35, _⟩ => ⟨S192x56x56, .f32⟩
  | .hbm, ⟨36, _⟩ => ⟨S192x56x56, .f32⟩
  | .hbm, ⟨37, _⟩ => ⟨S1x192x56x56, .f32⟩
  | .hbm, ⟨38, _⟩ => ⟨S32x192x56x56, .f32⟩
  | .hbm, ⟨39, _⟩ => ⟨S32x192x56x56, .f32⟩
  | .hbm, ⟨40, _⟩ => ⟨S1x192x56x56, .f32⟩
  | .hbm, ⟨41, _⟩ => ⟨S32x192x56x56, .f32⟩
  | .hbm, ⟨42, _⟩ => ⟨S32x192x56x56, .f32⟩
  | .hbm, ⟨43, _⟩ => ⟨S32x192x56x56, .f32⟩
  | .hbm, ⟨44, _⟩ => ⟨S_, .f32⟩
  | .hbm, ⟨45, _⟩ => ⟨S32x192x56x56, .f32⟩
  | .hbm, ⟨46, _⟩ => ⟨S32x192x56x56, .i1⟩
  | .hbm, ⟨47, _⟩ => ⟨S32x192x56x56, .f32⟩
  | .hbm, ⟨48, _⟩ => ⟨S32x192x56x56, .f32⟩
  | _, _ => ⟨S32x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Ideal.Values.lean ====
/-
  What one tile computes, away from the program logic: the word its index table holds for an element (`place`), the gated value
  of one element (`gate`), a buffer rewritten up to a position (`mix`) and what a store of sixteen lanes does to it, and the
  tile's slice of the result (`blend`) as a function of its slices of the four operands.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen
open Idealize.ShloMosaic

variable {F : FTy → Type}

/-! ## One element -/

/-- The position inside a tile's slice that the table holds for an element of the slice's plane `k` whose row and column words are
    `r` and `c`: row times 56, plus the column, plus the plane's start. -/
def place (k : Nat) (r c : BitVec 32) : BitVec 32 :=
  IntOp.addi (IntOp.addi (IntOp.muli r 56#32) c) (IntOp.muli (Scf.iv 0#32 1#32 k) 3136#32)

/-- Row and column below 56 keep the position inside plane `k` of the six planes of a slice. -/
theorem place_toNat {k : Nat} (hk : k < 6) {r c : BitVec 32} (hr : r.toNat < 56) (hc : c.toNat < 56) :
    (place k r c).toNat = r.toNat * 56 + c.toNat + k * 3136 := by
  have hiv : (Scf.iv 0#32 1#32 k).toNat = k := by
    rw [Scf.iv_eq_ofInt]; simp [BitVec.toNat_ofInt]; omega
  unfold place IntOp.addi IntOp.muli
  rw [BitVec.toNat_add, BitVec.toNat_add, BitVec.toNat_mul, BitVec.toNat_mul, hiv]
  simp only [BitVec.toNat_ofNat]
  omega

variable [FloatOps F]

/-- The stored value of one element: `x` where the blend of `x` and the gathered `g` by the gate `i` is positive, zero elsewhere. -/
def gate (x i g : F .f32) : F .f32 := k0_pay2 (broadcast S16 x) (broadcast S16 i) (broadcast S16 g) (Shape.ofLane (d := ![16]) (0 : Fin 16))

theorem pay2_apply (a b c : Vec F S16 .f32) (l : S16.Idx) : k0_pay2 a b c l = gate (a l) (b l) (c l) := rfl

theorem pay1_apply (k : Fin k0_t1_loop.trips) (a b : Vec F S16 .i32) (l : S16.Idx) : k0_pay1 k a b l = place k (a l) (b l) := rfl

/-! ## A buffer rewritten up to a position -/

/-- The contents `A` below position `n` and `B` from there on. -/
def mix {α : Type} (n : Nat) (A B : S18816.Idx → α) : S18816.Idx → α := fun y => if (y 0).val < n then A y else B y

theorem mix_zero {α : Type} (A B : S18816.Idx → α) : mix 0 A B = B := by
  funext y; simp [mix]

theorem mix_all {α : Type} (A B : S18816.Idx → α) : mix 18816 A B = A := by
  funext y; exact if_pos (y 0).isLt

/-- Position `n + l` for lane `l`. -/
theorem unit_emb_val {off : Fin 1 → Nat} (inb : ∀ a, off a + S16.size a ≤ S18816.size a) (x : (Rect.unit (s := S18816) off S16.size inb).shape.Idx) :
    (((Rect.unit (s := S18816) off S16.size inb).emb x) 0).val = off 0 + (x 0).val := by
  rw [Rect.emb_apply]; simp

/-- Contents that take the sixteen lanes of `A` from position `n` on and elsewhere are `mix n A B` are `mix (n + 16) A B`. -/
theorem mix_step {α : Type} {off : Fin 1 → Nat} (inb : ∀ a, off a + S16.size a ≤ S18816.size a) {n : Nat} (hoff : off 0 = n)
    (A B W : S18816.Idx → α)
    (hin : ∀ l, W ((Rect.unit (s := S18816) off S16.size inb).emb l) = A ((Rect.unit (s := S18816) off S16.size inb).emb l))
    (hout : ∀ y, y ∉ (Rect.unit (s := S18816) off S16.size inb).set → W y = mix n A B y) : W = mix (n + 16) A B := by
  funext y
  by_cases hy : y ∈ (Rect.unit (s := S18816) off S16.size inb).set
  · obtain ⟨x, rfl⟩ := (Rect.unit (s := S18816) off S16.size inb).exists_idx_of_mem hy
    refine (hin x).trans (if_pos ?_).symm
    show (((Rect.unit (s := S18816) off S16.size inb).emb x) 0).val < _
    rw [unit_emb_val, hoff]
    have : (x 0).val < 16 := (x 0).isLt
    omega
  · rw [hout y hy]
    rw [Rect.mem_set_unit] at hy
    have : ¬ (n ≤ (y 0).val ∧ (y 0).val < n + 16) := fun h => hy fun a => by
      obtain rfl : a = 0 := Fin.eq_zero a
      rw [hoff]; exact h
    unfold mix
    by_cases h1 : (y 0).val < n
    · rw [if_pos h1, if_pos (by omega)]
    · rw [if_neg h1, if_neg (by omega)]

/-- Sixteen lanes of `A` stored into the index buffer at position `n` over `mix n A B` give `mix (n + 16) A B`. -/
theorem store_mix_idx {off : Fin 1 → Nat} (inb : ∀ a, off a + S16.size a ≤ S18816.size a) {n : Nat} (hoff : off 0 = n)
    (A B : S18816.Idx → Elt F .i32) (w : Vec F S16 .i32)
    (hw : ∀ l, w l = A ((Rect.unit (s := S18816) off S16.size inb).emb l)) :
    ((Memref.whole cc0_scratch0).access (Rect.unit (s := S18816) off S16.size inb)).write (Elt F) (mix n A B) w Finset.univ = mix (n + 16) A B :=
  mix_step inb hoff A B _
    (fun l => (View.write_emb_of_mem (v := (Memref.whole cc0_scratch0).access (Rect.unit (s := S18816) off S16.size inb)) _ w (Finset.mem_univ l)).trans (hw l))
    (fun y hy => View.write_of_not_mem (v := (Memref.whole cc0_scratch0).access (Rect.unit (s := S18816) off S16.size inb)) _ w Finset.univ (by
      rw [View.setOn_univ]
      show y ∉ ((View.whole (cc0_scratch0 : Ref sig .scVector)).slice (Rect.unit (s := S18816) off S16.size inb)).set
      rw [View.set_slice]
      intro h; obtain ⟨z, hz, rfl⟩ := Finset.mem_map.mp h; exact hy hz))

/-- The same for the result buffer. -/
theorem store_mix_out {off : Fin 1 → Nat} (inb : ∀ a, off a + S16.size a ≤ S18816.size a) {n : Nat} (hoff : off 0 = n)
    (A B : S18816.Idx → Elt F .f32) (w : Vec F S16 .f32)
    (hw : ∀ l, w l = A ((Rect.unit (s := S18816) off S16.size inb).emb l)) :
    ((Memref.whole cc0_scratch4).access (Rect.unit (s := S18816) off S16.size inb)).write (Elt F) (mix n A B) w Finset.univ = mix (n + 16) A B :=
  mix_step inb hoff A B _
    (fun l => (View.write_emb_of_mem (v := (Memref.whole cc0_scratch4).access (Rect.unit (s := S18816) off S16.size inb)) _ w (Finset.mem_univ l)).trans (hw l))
    (fun y hy => View.write_of_not_mem (v := (Memref.whole cc0_scratch4).access (Rect.unit (s := S18816) off S16.size inb)) _ w Finset.univ (by
      rw [View.setOn_univ]
      show y ∉ ((View.whole (cc0_scratch4 : Ref sig .scVector)).slice (Rect.unit (s := S18816) off S16.size inb)).set
      rw [View.set_slice]
      intro h; obtain ⟨z, hz, rfl⟩ := Finset.mem_map.mp h; exact hy hz))

/-! ## A tile's slice -/

/-- The index table of a slice: for each position, where in the slice its gathered element lies. -/
def table (rows cols : S18816.Idx → Elt F .i32) : S18816.Idx → Elt F .i32 := fun y => place ((y 0).val / 3136) (rows y) (cols y)

/-- Every entry of the table is a position of the slice. -/
theorem table_lt {rows cols : S18816.Idx → Elt F .i32} (hr : ∀ y, BitVec.toNat (rows y) < 56) (hc : ∀ y, BitVec.toNat (cols y) < 56) (y : S18816.Idx) :
    BitVec.toNat (table (F := F) rows cols y) < 18816 := by
  have hy : (y 0).val < 18816 := (y 0).isLt
  have h := place_toNat (k := (y 0).val / 3136) (by omega) (hr y) (hc y)
  have := hr y; have := hc y
  refine lt_of_eq_of_lt h ?_
  omega

/-- The position `n` of a slice. -/
def pos (n : Nat) (h : n < 18816) : S18816.Idx := Shape.ofLane (d := ![18816]) (⟨n, h⟩ : Fin 18816)

/-- The tile's slice of the result, from its slices of `x` and of the gate and its index table. -/
def blend (x g : S18816.Idx → Elt F .f32) (t : S18816.Idx → Elt F .i32) (ht : ∀ y, BitVec.toNat (t y) < 18816) : S18816.Idx → Elt F .f32 :=
  fun y => gate (x y) (g y) (x (pos (BitVec.toNat (t y)) (ht y)))

end Cert.Proof.Ideal

end
-- ==== Proof.Ideal.Setup.lean ====
/-
  The launch as the launch theorem sees it: the program's labels and its SparseCore call, the resource algebra, the arrays and
  scratch buffers by the names the kernel's body gives them, and the pieces of the arrays that one tile reads and writes.
-/
module

public import proofs.«01_k».proof.Proof.Ideal.Values
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and counters for the copies in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened `x`, rows, columns and gate that the call reads, and the flattened result it writes, on device `d`. -/
abbrev xLoc (d : Dev nD) : Loc nD τ sig := (SparseCore.T d).loc main_v0
abbrev rLoc (d : Dev nD) : Loc nD τ sig := (SparseCore.T d).loc main_v3
abbrev cLoc (d : Dev nD) : Loc nD τ sig := (SparseCore.T d).loc main_v6
abbrev gLoc (d : Dev nD) : Loc nD τ sig := (SparseCore.T d).loc main_v7
abbrev oLoc (d : Dev nD) : Loc nD τ sig := (SparseCore.T d).loc main_v8

/-- The contents of the four arrays the call reads. -/
structure Inputs (F : FTy → Type) where
  x : S19267584.Idx → Elt F .f32
  r : S602112.Idx → Elt F .i32
  c : S602112.Idx → Elt F .i32
  g : S602112.Idx → Elt F .f32

/-- Rows and columns all below 56. -/
def Inputs.Ok (A : Inputs F) : Prop := (∀ p, BitVec.toNat (A.r p) < 56) ∧ ∀ p, BitVec.toNat (A.c p) < 56

/-! ## One tile's pieces -/

abbrev cV (L : grid0.Coords) : Fin τ.nSC := (L 0).castLE hcore0
abbrev jV (L : grid0.Coords) : Fin τ.nSub := (L 1).castLE hsub0

/-- The 18816 positions of the per-image arrays that the tile at `L` works on, and the same positions in image `b`. -/
abbrev tileRect (L : grid0.Coords) : Rect S602112 := Rect.unit (s := S602112) (k0_off1 L) S18816.size (k0_off1_inb L)
abbrev imgRect (L : grid0.Coords) (b : Fin k0_t3_loop.trips) : Rect S19267584 := Rect.unit (s := S19267584) (k0_off3 L b) S18816.size (k0_off3_inb L b)

abbrev tileSet (L : grid0.Coords) : Finset S602112.Idx := (tileRect L).set
abbrev imgSet (L : grid0.Coords) (b : Fin k0_t3_loop.trips) : Finset S19267584.Idx := (imgRect L b).set

/-- The tile's slices of the four arrays. -/
def xs (A : Inputs F) (L : grid0.Coords) (b : Fin k0_t3_loop.trips) : S18816.Idx → Elt F .f32 := fun y => A.x ((imgRect L b).emb y)
def rs (A : Inputs F) (L : grid0.Coords) : S18816.Idx → Elt F .i32 := fun y => A.r ((tileRect L).emb y)
def cs (A : Inputs F) (L : grid0.Coords) : S18816.Idx → Elt F .i32 := fun y => A.c ((tileRect L).emb y)
def gs (A : Inputs F) (L : grid0.Coords) : S18816.Idx → Elt F .f32 := fun y => A.g ((tileRect L).emb y)

variable [FloatOps F]

/-- The tile's index table. -/
def ts (A : Inputs F) (L : grid0.Coords) : S18816.Idx → Elt F .i32 := table (rs A L) (cs A L)

theorem ts_lt {A : Inputs F} (hA : A.Ok) (L : grid0.Coords) (y : S18816.Idx) : BitVec.toNat (ts A L y) < 18816 :=
  table_lt (fun _ => hA.1 _) (fun _ => hA.2 _) y

/-- The tile's slice of image `b` of the result. -/
def outs (A : Inputs F) (hA : A.Ok) (L : grid0.Coords) (b : Fin k0_t3_loop.trips) : S18816.Idx → Elt F .f32 :=
  blend (xs A L b) (gs A L) (ts A L) (ts_lt hA L)

/-! ## The result, whole -/

/-- Position `n` of the flat result and of a flat per-image array. -/
def at32 (n : Nat) : S19267584.Idx := Shape.ofLane (d := ![19267584]) (⟨n % 19267584, Nat.mod_lt _ (by decide)⟩ : Fin 19267584)
def at1 (n : Nat) : S602112.Idx := Shape.ofLane (d := ![602112]) (⟨n % 602112, Nat.mod_lt _ (by decide)⟩ : Fin 602112)

/-- The flat result: element `n`, of image `n / 602112` and plane `n / 3136`, gates `x` at `n` with `x` gathered in its own plane. -/
def res (A : Inputs F) : S19267584.Idx → Elt F .f32 := fun y =>
  gate (A.x y) (A.g (at1 (y 0).val))
    (A.x (at32 ((y 0).val - (y 0).val % 3136 + (BitVec.toNat (A.r (at1 (y 0).val)) * 56 + BitVec.toNat (A.c (at1 (y 0).val))))))

/-- On a tile's slice of image `b` the flat result is the tile's slice of the result. -/
theorem res_outs (A : Inputs F) (hA : A.Ok) (L : grid0.Coords) (b : Fin k0_t3_loop.trips) (y : S18816.Idx) :
    res A ((imgRect L b).emb y) = outs A hA L b y := by
  have hL0 : (L 0).val < 2 := (L 0).isLt
  have hL1 : (L 1).val < 16 := (L 1).isLt
  have hb : b.val < 32 := Nat.lt_of_lt_of_le b.isLt k0_t3_abs.2.1
  have hy : (y 0).val < 18816 := (y 0).isLt
  have e3 : ∀ z : S18816.Idx, (((imgRect L b).emb z) 0).val = 602112 * b.val + 37632 * (L 1).val + 18816 * (L 0).val + (z 0).val := fun z => by
    rw [Rect.emb_apply]; simp [k0_off3_eq]
  have e1 : ∀ z : S18816.Idx, (((tileRect L).emb z) 0).val = 37632 * (L 1).val + 18816 * (L 0).val + (z 0).val := fun z => by
    rw [Rect.emb_apply]; simp [k0_off1_eq]
  have ha1 : at1 (((imgRect L b).emb y) 0).val = (tileRect L).emb y := by
    funext a; obtain rfl : a = 0 := Fin.eq_zero a
    apply Fin.ext
    rw [e1]
    show (((imgRect L b).emb y) 0).val % 602112 = _
    rw [e3]; omega
  unfold res outs blend
  rw [ha1]
  have hr := hA.1 ((tileRect L).emb y)
  have hc := hA.2 ((tileRect L).emb y)
  have ht : BitVec.toNat (ts A L y) = BitVec.toNat (A.r ((tileRect L).emb y)) * 56 + BitVec.toNat (A.c ((tileRect L).emb y)) + (y 0).val / 3136 * 3136 :=
    place_toNat (by omega) hr hc
  have hat : at32 ((((imgRect L b).emb y) 0).val - (((imgRect L b).emb y) 0).val % 3136
      + (BitVec.toNat (A.r ((tileRect L).emb y)) * 56 + BitVec.toNat (A.c ((tileRect L).emb y))))
      = (imgRect L b).emb (pos (BitVec.toNat (ts A L y)) (ts_lt hA L y)) := by
    funext a; obtain rfl : a = 0 := Fin.eq_zero a
    apply Fin.ext
    rw [e3 (pos _ _), e3 y]
    show _ % 19267584 = _ + BitVec.toNat (ts A L y)
    rw [ht]; omega
  rw [hat]
  rfl

end Cert.Proof.Ideal

end
-- ==== Proof.Ideal.Loops.lean ====
/-
  The kernel's two inner loops on one tile: the trip that turns sixteen rows and columns into table entries, and the trip that
  gathers and gates sixteen elements.
-/
module

public import proofs.«01_k».proof.Proof.Ideal.Setup

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays that the body is given -/

/-- The images, flat. -/
abbrev xV : Memref sig Kind.scVector Space.hbm Cert.KernelIdeal.S19267584 EltTy.f32 := Memref.whole Cert.KernelIdeal.main_v0_scv
/-- The rows, flat. -/
abbrev rV : Memref sig Kind.scVector Space.hbm Cert.KernelIdeal.S602112 EltTy.i32 := Memref.whole Cert.KernelIdeal.main_v3_scv
/-- The columns, flat. -/
abbrev cV' : Memref sig Kind.scVector Space.hbm Cert.KernelIdeal.S602112 EltTy.i32 := Memref.whole Cert.KernelIdeal.main_v6_scv
/-- The gate, flat. -/
abbrev gV : Memref sig Kind.scVector Space.hbm Cert.KernelIdeal.S602112 EltTy.f32 := Memref.whole Cert.KernelIdeal.main_v7_scv
/-- The result, flat. -/
abbrev oV : Memref sig Kind.scVector Space.hbm Cert.KernelIdeal.S19267584 EltTy.f32 := Memref.whole Cert.KernelIdeal.main_v8_scv
/-- A tile's buffer of rows, later of the index table. -/
abbrev sT : Memref sig Kind.scVector Space.vmem Cert.KernelIdeal.S18816 EltTy.i32 := Memref.whole Cert.KernelIdeal.cc0_scratch0
/-- Its buffer of columns. -/
abbrev sC : Memref sig Kind.scVector Space.vmem Cert.KernelIdeal.S18816 EltTy.i32 := Memref.whole Cert.KernelIdeal.cc0_scratch1
/-- Its buffer of the gate. -/
abbrev sG : Memref sig Kind.scVector Space.vmem Cert.KernelIdeal.S18816 EltTy.f32 := Memref.whole Cert.KernelIdeal.cc0_scratch2
/-- Its buffer of an image. -/
abbrev sX : Memref sig Kind.scVector Space.vmem Cert.KernelIdeal.S18816 EltTy.f32 := Memref.whole Cert.KernelIdeal.cc0_scratch3
/-- Its buffer of a result. -/
abbrev sO : Memref sig Kind.scVector Space.vmem Cert.KernelIdeal.S18816 EltTy.f32 := Memref.whole Cert.KernelIdeal.cc0_scratch4

variable (d : Dev nD) (L : grid0.Coords)

/-- The tile's thread. -/
abbrev thr : Thread nD τ := V d (cV L) (jV L)

theorem trips1 : k0_t1_loop.trips = 6 := by decide
theorem trips2 : k0_t2_loop.trips = 196 := by decide
theorem trips3 : k0_t3_loop.trips = 32 := by decide
theorem trips4 : k0_t4_loop.trips = 1176 := by decide

/-- What the trip's store leaves: the table sixteen entries further. -/
theorem index_store (R C : S18816.Idx → Elt F .i32) (k1 : Fin k0_t1_loop.trips) (k2 : Fin k0_t2_loop.trips) :
    (sT).view.writes (Elt F) (mix (3136 * k1.val + 16 * k2.val) (table R C) R)
        [⟨Rect.unit (s := S18816) (k0_off2 k1 k2) S16.size (k0_off2_inb k1 k2), k0_pay1 k1
          ((sT).view.readAt (Elt F) (Rect.unit (s := S18816) (k0_off2 k1 k2) S16.size (k0_off2_inb k1 k2)).toLoadRect (mix (3136 * k1.val + 16 * k2.val) (table R C) R))
          ((sC).view.readAt (Elt F) (Rect.unit (s := S18816) (k0_off2 k1 k2) S16.size (k0_off2_inb k1 k2)).toLoadRect C)⟩]
      = mix (3136 * k1.val + 16 * (k2.val + 1)) (table R C) R := by
  have h1 : k1.val < 6 := Nat.lt_of_lt_of_le k1.isLt k0_t1_abs.2.1
  have h2 : k2.val < 196 := Nat.lt_of_lt_of_le k2.isLt k0_t2_abs.2.1
  have hoff : k0_off2 k1 k2 0 = 3136 * k1.val + 16 * k2.val := by rw [k0_off2_eq]; rfl
  rw [View.writes_singleton, show 3136 * k1.val + 16 * (k2.val + 1) = 3136 * k1.val + 16 * k2.val + 16 by omega]
  refine store_mix_idx (k0_off2_inb k1 k2) hoff (table R C) R _ fun l => ?_
  have hl : (l 0).val < 16 := (l 0).isLt
  have he := unit_emb_val (k0_off2_inb k1 k2) l
  rw [hoff] at he
  rw [pay1_apply]
  show place k1.val (mix _ _ R ((Rect.unit (s := S18816) (k0_off2 k1 k2) S16.size (k0_off2_inb k1 k2)).emb l)) (C ((Rect.unit (s := S18816) (k0_off2 k1 k2) S16.size (k0_off2_inb k1 k2)).emb l)) = _
  unfold mix table
  rw [if_neg (by omega), he, show (3136 * k1.val + 16 * k2.val + (l 0).val) / 3136 = k1.val by omega]

/-- One trip of the table loop: sixteen rows become table entries. -/
theorem index_trip (R C : S18816.Idx → Elt F .i32) (k1 : Fin k0_t1_loop.trips) (k2 : Fin k0_t2_loop.trips) (acc : BitVec 32) :
    iprop(((sT).view.loc (thr d L) ↦{fullShare} mix (3136 * k1.val + 16 * k2.val) (table R C) R) ∗ ((sC).view.loc (thr d L) ↦{fullShare} C))
      ⊢ wp frame (wpE (defs₀ (F := F)) 𝒱₀ (thr d L) none) Set.univ
          (k0_t2_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4 k1 k2 acc)
          fun _ => (iprop(((sT).view.loc (thr d L) ↦{fullShare} mix (3136 * k1.val + 16 * (k2.val + 1)) (table R C) R) ∗ ((sC).view.loc (thr d L) ↦{fullShare} C)) : sProp 𝕄) := by
  unfold k0_t2_body
  iintro ⟨Ht, Hc⟩
  sl_exec
  sl_step
  rw [← index_store]
  isplitl [Ht]; · iexact Ht
  iexact Hc

/-- The table before trip `k2` of plane `k1`. -/
def inv2 (R C : S18816.Idx → Elt F .i32) (k1 : Nat) (k2 : Nat) (_ : BitVec 32) : sProp 𝕄 :=
  iprop(((sT).view.loc (thr d L) ↦{fullShare} mix (3136 * k1 + 16 * k2) (table R C) R) ∗ ((sC).view.loc (thr d L) ↦{fullShare} C))

/-- The table before plane `k1`. -/
def inv1 (R C : S18816.Idx → Elt F .i32) (k1 : Nat) (_ : BitVec 32) : sProp 𝕄 :=
  iprop(((sT).view.loc (thr d L) ↦{fullShare} mix (3136 * k1) (table R C) R) ∗ ((sC).view.loc (thr d L) ↦{fullShare} C))

/-- One plane of the table. -/
theorem plane_trip (R C : S18816.Idx → Elt F .i32) (k1 : Fin k0_t1_loop.trips) (acc : BitVec 32) :
    inv1 d L R C k1.val acc
      ⊢ wp frame (wpE (defs₀ (F := F)) 𝒱₀ (thr d L) none) Set.univ
          (k0_t1_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4 k1 acc)
          (inv1 d L R C (k1.val + 1)) := by
  unfold k0_t1_body
  iintro HI
  sl_for (inv2 d L R C k1.val) $$ [HI]
  case region =>
    intro k2 acc2
    exact index_trip d L R C k1 k2 acc2
  · unfold inv1 inv2
    iexact HI
  iintro %acc2 HI
  sl_exec
  sl_step
  unfold inv1 inv2
  rw [show Scf.trips k0_t2_loop.lb k0_t2_loop.ub k0_t2_loop.st = 196 from trips2, show 3136 * (k1.val + 1) = 3136 * k1.val + 16 * 196 by omega]
  iexact HI

/-- What the gating trip's store leaves: the result slice sixteen elements further. -/
theorem blend_store (X G O : S18816.Idx → Elt F .f32) (Tb : S18816.Idx → Elt F .i32) (ht : ∀ y, BitVec.toNat (Tb y) < 18816) (k : Fin k0_t4_loop.trips)
    (h : ∀ a x, ((![(sT).view.readAt (Elt F) (Rect.unit (s := S18816) (k0_off4 k) S16.size (k0_off4_inb k)).toLoadRect Tb] : Fin 1 → IVec S16 32) a x).toNat < S18816.size a) :
    (sO).view.writes (Elt F) (mix (16 * k.val) (blend X G Tb ht) O)
        [⟨Rect.unit (s := S18816) (k0_off5 k) S16.size (k0_off5_inb k), k0_pay2
          ((sX).view.readAt (Elt F) (Rect.unit (s := S18816) (k0_off4 k) S16.size (k0_off4_inb k)).toLoadRect X)
          ((sG).view.readAt (Elt F) (Rect.unit (s := S18816) (k0_off4 k) S16.size (k0_off4_inb k)).toLoadRect G)
          (loadIdx (((sX).access (.whole S18816)).read (Elt F) X) ![(sT).view.readAt (Elt F) (Rect.unit (s := S18816) (k0_off4 k) S16.size (k0_off4_inb k)).toLoadRect Tb] h)⟩]
      = mix (16 * (k.val + 1)) (blend X G Tb ht) O := by
  have h5 : k0_off5 k 0 = 16 * k.val := by rw [k0_off5_eq]; rfl
  have h45 : k0_off4 k = k0_off5 k := by rw [k0_off4_eq, k0_off5_eq]
  have hemb : ∀ l : S16.Idx, (Rect.unit (s := S18816) (k0_off4 k) S16.size (k0_off4_inb k)).emb l = (Rect.unit (s := S18816) (k0_off5 k) S16.size (k0_off5_inb k)).emb l := by
    intro l; funext a; apply Fin.ext
    rw [Rect.emb_apply, Rect.emb_apply]
    exact congrArg (fun n => n + 1 * (l a).val) (congrFun h45 a)
  rw [View.writes_singleton, show 16 * (k.val + 1) = 16 * k.val + 16 by omega]
  refine store_mix_out (k0_off5_inb k) h5 (blend X G Tb ht) O _ fun l => ?_
  rw [pay2_apply]
  unfold blend
  rw [← hemb l]
  have hr : ((sX).access (.whole S18816)).read (Elt F) X = X := Memref.read_access_whole (Elt F) cc0_scratch3 X
  unfold loadIdx
  rw [hr]
  refine congrArg (gate _ _) (congrArg X ?_)
  funext a; obtain rfl : a = 0 := Fin.eq_zero a
  rfl

/-- One trip of the gating loop: sixteen elements gathered and gated. -/
theorem blend_trip (X G O : S18816.Idx → Elt F .f32) (Tb : S18816.Idx → Elt F .i32) (ht : ∀ y, BitVec.toNat (Tb y) < 18816)
    (k : Fin k0_t4_loop.trips) (acc : BitVec 32) :
    iprop(((sT).view.loc (thr d L) ↦{fullShare} Tb) ∗ ((sG).view.loc (thr d L) ↦{fullShare} G) ∗ ((sX).view.loc (thr d L) ↦{fullShare} X)
        ∗ ((sO).view.loc (thr d L) ↦{fullShare} mix (16 * k.val) (blend X G Tb ht) O))
      ⊢ wp frame (wpE (defs₀ (F := F)) 𝒱₀ (thr d L) none) Set.univ
          (k0_t4_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4 k acc)
          fun _ => (iprop(((sT).view.loc (thr d L) ↦{fullShare} Tb) ∗ ((sG).view.loc (thr d L) ↦{fullShare} G) ∗ ((sX).view.loc (thr d L) ↦{fullShare} X)
            ∗ ((sO).view.loc (thr d L) ↦{fullShare} mix (16 * (k.val + 1)) (blend X G Tb ht) O)) : sProp 𝕄) := by
  unfold k0_t4_body
  iintro ⟨Ht, Hg, Hx, Ho⟩
  sl_exec
  have hchk : k0_chk1 ((sT).view.readAt (Elt F) (Rect.unit (s := S18816) (k0_off4 k) S16.size (k0_off4_inb k)).toLoadRect Tb) := by
    intro a x; obtain rfl : a = 0 := Fin.eq_zero a
    exact ht _
  rw [wp_assume_of _ _ _ _ hchk]
  iapply (SparseCore.wp_vectorLoadIdx 𝒱₀ (thr d L) none Set.univ (base := sX) (S := Finset.univ) (q := fullShare) (f := X) (Finset.subset_univ _)) $$ Hx
  iintro Hx
  sl_exec
  sl_step
  rw [← blend_store X G O Tb ht k hchk]
  isplitl [Ht]; · iexact Ht
  isplitl [Hg]; · iexact Hg
  isplitl [Hx]; · iexact Hx
  iexact Ho

/-- The result slice before gating trip `k`. -/
def inv4 (X G O : S18816.Idx → Elt F .f32) (Tb : S18816.Idx → Elt F .i32) (ht : ∀ y, BitVec.toNat (Tb y) < 18816) (k : Nat) (_ : BitVec 32) : sProp 𝕄 :=
  iprop(((sT).view.loc (thr d L) ↦{fullShare} Tb) ∗ ((sG).view.loc (thr d L) ↦{fullShare} G) ∗ ((sX).view.loc (thr d L) ↦{fullShare} X)
    ∗ ((sO).view.loc (thr d L) ↦{fullShare} mix (16 * k) (blend X G Tb ht) O))

/-! ## One image -/

theorem set_img (b : Fin k0_t3_loop.trips) : ((xV).slice (imgRect L b) (fun _ => rfl)).view.set = imgSet L b := by
  show ((View.whole (main_v0_scv : Ref sig .scVector)).slice (imgRect L b)).set = _
  rw [View.set_slice]; exact Finset.map_refl
theorem set_out (b : Fin k0_t3_loop.trips) : ((oV).slice (imgRect L b) (fun _ => rfl)).view.set = imgSet L b := by
  show ((View.whole (main_v8_scv : Ref sig .scVector)).slice (imgRect L b)).set = _
  rw [View.set_slice]; exact Finset.map_refl

/-- The tile's slice of image `b`, of `x` and of the result, as the body addresses it. -/
theorem pts_img (b : Fin k0_t3_loop.trips) (f : Buf (Elt F) (xLoc d)) :
    (((xV).slice (imgRect L b) (fun _ => rfl)).view.loc (thr d L) ↦[((xV).slice (imgRect L b) (fun _ => rfl)).view.set]{fullShare} f : sProp 𝕄)
      = xLoc d ↦[imgSet L b]{fullShare} f := by
  rw [set_img]
theorem pts_out (b : Fin k0_t3_loop.trips) (f : Buf (Elt F) (oLoc d)) :
    (((oV).slice (imgRect L b) (fun _ => rfl)).view.loc (thr d L) ↦[((oV).slice (imgRect L b) (fun _ => rfl)).view.set]{fullShare} f : sProp 𝕄)
      = oLoc d ↦[imgSet L b]{fullShare} f := by
  rw [set_out]

/-- The tile's slice of image `b` of the result, after a copy of the slice `p` of `res A` over it. -/
theorem out_written (A : Inputs F) (b : Fin k0_t3_loop.trips) (fo : Buf (Elt F) (oLoc d)) (p : S18816.Idx → Elt F .f32)
    (hp : ∀ y, res A ((imgRect L b).emb y) = p y) :
    (((oV).slice (imgRect L b) (fun _ => rfl)).view.loc (thr d L) ↦[((oV).slice (imgRect L b) (fun _ => rfl)).view.set]{fullShare}
        ((oV).slice (imgRect L b) (fun _ => rfl)).view.writes (Elt F) fo [⟨Rect.whole (imgRect L b).shape, p⟩] : sProp 𝕄)
      = oLoc d ↦[imgSet L b]{fullShare} res A := by
  refine Eq.trans (pointsTo_congr fun i hi => ?_) (pts_out d L b (res A))
  obtain ⟨y, -, rfl⟩ := Finset.mem_map.mp hi
  rw [View.writes_singleton]
  have hw := View.write_emb_of_mem (Val := Elt F) (v := ((oV).slice (imgRect L b) (fun _ => rfl)).view.slice (Rect.whole (imgRect L b).shape)) fo p (Finset.mem_univ y)
  have he : (((oV).slice (imgRect L b) (fun _ => rfl)).view.slice (Rect.whole (imgRect L b).shape)).emb y = ((oV).slice (imgRect L b) (fun _ => rfl)).view.emb y := by
    show ((oV).slice (imgRect L b) (fun _ => rfl)).view.emb ((Rect.whole (imgRect L b).shape).emb y) = _
    rw [Rect.emb_whole_apply]
  rw [he] at hw
  exact hw.trans (hp y).symm

/-- One image: the tile's slice of it is copied in, gated and copied out; the result's slice then holds `res A`. -/
theorem image_trip (A : Inputs F) (hA : A.Ok) (fo : Buf (Elt F) (oLoc d)) (b : Fin k0_t3_loop.trips) (acc : BitVec 32)
    (O : CellTallies nD τ sig (HIx 1)) (W : Waits sig (HIx 1)) (X0 O0 : S18816.Idx → Elt F .f32) :
    iprop(Transfers.MayWaits (thr d L) (default : HIx 1) O
        ∗ ((sT).view.loc (thr d L) ↦{fullShare} ts A L) ∗ ((sG).view.loc (thr d L) ↦{fullShare} gs A L)
        ∗ ((sX).view.loc (thr d L) ↦{fullShare} X0) ∗ ((sO).view.loc (thr d L) ↦{fullShare} O0)
        ∗ (xLoc d ↦[imgSet L b]{fullShare} A.x) ∗ (oLoc d ↦[imgSet L b]{fullShare} fo)
        ∗ semVal (thr d L, SemLoc.dma cc0_scoped3.sem) 0 ∗ semVal (thr d L, SemLoc.dma cc0_scoped4.sem) 0 ∗ owes (thr d L) O W)
      ⊢ wp frame (wpE (defs₀ (F := F)) 𝒱₀ (thr d L) none) Set.univ
          (k0_t3_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4 b acc)
          fun _ => (iprop(Transfers.MayWaits (thr d L) (default : HIx 1) O
            ∗ ((sT).view.loc (thr d L) ↦{fullShare} ts A L) ∗ ((sG).view.loc (thr d L) ↦{fullShare} gs A L)
            ∗ (∃ f, (sX).view.loc (thr d L) ↦{fullShare} f) ∗ (∃ f, (sO).view.loc (thr d L) ↦{fullShare} f)
            ∗ (xLoc d ↦[imgSet L b]{fullShare} A.x) ∗ (oLoc d ↦[imgSet L b]{fullShare} res A)
            ∗ semVal (thr d L, SemLoc.dma cc0_scoped3.sem) 0 ∗ semVal (thr d L, SemLoc.dma cc0_scoped4.sem) 0
            ∗ ∃ W', owes (thr d L) O W') : sProp 𝕄) := by
  unfold k0_t3_body
  rw [← pts_img, ← pts_out]
  iintro ⟨Hmw, Ht, Hg, Hx, Ho, Hxi, Hoi, Hs3, Hs4, HO⟩
  sl_exec
  have hx : View.write (Elt F) (sX).view X0 (image_trip.sl.dma0 L A b) Finset.univ = xs A L b := by
    exact (View.write_whole_univ (Val := Elt F) (cc0_scratch3 : Ref sig .scVector) X0 _).trans rfl
  rw [hx]
  sl_for (inv4 d L (xs A L b) (gs A L) O0 (ts A L) (ts_lt hA L)) $$ [Ht Hg Hx Ho]
  case region =>
    intro k acc2
    exact blend_trip d L (xs A L b) (gs A L) O0 (ts A L) (ts_lt hA L) k acc2
  · unfold inv4
    rw [show 16 * 0 = 0 from rfl, mix_zero]
    isplitl [Ht]; · iexact Ht
    isplitl [Hg]; · iexact Hg
    isplitl [Hx]; · iexact Hx
    iexact Ho
  iintro %acc2 HI
  unfold inv4
  rw [show Scf.trips k0_t4_loop.lb k0_t4_loop.ub k0_t4_loop.st = 1176 from trips4, show 16 * 1176 = 18816 from rfl, mix_all]
  icases HI with ⟨Ht, Hg, Hx, Ho⟩
  sl_exec
  sl_step
  isplitl [Hmw]; · iexact Hmw
  isplitl [Ht]; · iexact Ht
  isplitl [Hg]; · iexact Hg
  isplitl [Hx]; · iexists _; iexact Hx
  isplitl [Ho]; · iexists _; iexact Ho
  isplitl [Hxi]; · iexact Hxi
  isplitl [Hoi]
  · iapply (Entails.of_eq (out_written d L A b fo _ fun y => res_outs A hA L b y))
    iexact Hoi
  isplitl [Hs3]; · iexact Hs3
  isplitl [Hs4]; · iexact Hs4
  iexists _; iexact HO

end Cert.Proof.Ideal

end
-- ==== Proof.Ideal.Tile.lean ====
/-
  The kernel's body on one tile: the rows, columns and gate of its slice copied in, the index table built, and the images taken one
  after the other; what the tile owns before and after.
-/
module

public import proofs.«01_k».proof.Proof.Ideal.Loops

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## What a tile owns -/

/-- The tile's slice of image `b` of the result before image `k` is taken: `res A` for the images already taken, `fo` for the rest. -/
abbrev oPiece (A : Inputs F) (fo : Buf (Elt F) (oLoc d)) (k : Nat) (b : Fin k0_t3_loop.trips) : sProp 𝕄 :=
  oLoc d ↦[imgSet L b]{fullShare} (if b.val < k then res A else fo)

/-- The tile's slices of the four arrays it reads, and its slices of the result at `fo`. -/
def tilePts (A : Inputs F) (fo : Buf (Elt F) (oLoc d)) : sProp 𝕄 :=
  iprop((rLoc d ↦[tileSet L]{fullShare} A.r) ∗ (cLoc d ↦[tileSet L]{fullShare} A.c) ∗ (gLoc d ↦[tileSet L]{fullShare} A.g)
    ∗ (bigSep Finset.univ fun b : Fin k0_t3_loop.trips => xLoc d ↦[imgSet L b]{fullShare} A.x)
    ∗ (bigSep Finset.univ fun b : Fin k0_t3_loop.trips => oLoc d ↦[imgSet L b]{fullShare} fo))

/-- Taking image `b`'s piece out and putting it back with `res A` moves the pieces one image on. -/
theorem oPiece_step (A : Inputs F) (fo : Buf (Elt F) (oLoc d)) (b : Fin k0_t3_loop.trips) :
    (bigSep (Finset.univ.erase b) (oPiece d L A fo b.val) : sProp 𝕄) = bigSep (Finset.univ.erase b) (oPiece d L A fo (b.val + 1)) :=
  bigSep_congr fun a ha => by
    have hne : a.val ≠ b.val := fun e => (Finset.mem_erase.mp ha).1 (Fin.ext e)
    unfold oPiece
    by_cases h : a.val < b.val
    · rw [if_pos h, if_pos (by omega)]
    · rw [if_neg h, if_neg (by omega)]

/-! ## The images -/

/-- What the tile holds before image `k`. -/
def inv3 (A : Inputs F) (fo : Buf (Elt F) (oLoc d)) (O : CellTallies nD τ sig (HIx 1)) (k : Nat) (_ : BitVec 32) : sProp 𝕄 :=
  iprop(Transfers.MayWaits (thr d L) (default : HIx 1) O
    ∗ ((sT).view.loc (thr d L) ↦{fullShare} ts A L) ∗ ((sG).view.loc (thr d L) ↦{fullShare} gs A L)
    ∗ (∃ f, (sX).view.loc (thr d L) ↦{fullShare} f) ∗ (∃ f, (sO).view.loc (thr d L) ↦{fullShare} f)
    ∗ (bigSep Finset.univ fun b : Fin k0_t3_loop.trips => xLoc d ↦[imgSet L b]{fullShare} A.x)
    ∗ (bigSep Finset.univ (oPiece d L A fo k))
    ∗ semVal (thr d L, SemLoc.dma cc0_scoped3.sem) 0 ∗ semVal (thr d L, SemLoc.dma cc0_scoped4.sem) 0 ∗ ∃ W', owes (thr d L) O W')

/-- One image among the others. -/
theorem images_trip (A : Inputs F) (hA : A.Ok) (fo : Buf (Elt F) (oLoc d)) (O : CellTallies nD τ sig (HIx 1)) (b : Fin k0_t3_loop.trips) (acc : BitVec 32) :
    inv3 d L A fo O b.val acc
      ⊢ wp frame (wpE (defs₀ (F := F)) 𝒱₀ (thr d L) none) Set.univ
          (k0_t3_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4 b acc)
          (inv3 d L A fo O (b.val + 1)) := by
  unfold inv3
  rw [SparseCore.bigSep_erase' (Finset.mem_univ b) (Φ := fun b : Fin k0_t3_loop.trips => (xLoc d ↦[imgSet L b]{fullShare} A.x : sProp 𝕄)),
    SparseCore.bigSep_erase' (Finset.mem_univ b) (Φ := oPiece d L A fo b.val), SparseCore.bigSep_erase' (Finset.mem_univ b) (Φ := oPiece d L A fo (b.val + 1)),
    oPiece_step]
  rw [show oPiece d L A fo b.val b = (oLoc d ↦[imgSet L b]{fullShare} fo : sProp 𝕄) by unfold oPiece; rw [if_neg (lt_irrefl _)],
    show oPiece d L A fo (b.val + 1) b = (oLoc d ↦[imgSet L b]{fullShare} res A : sProp 𝕄) by unfold oPiece; rw [if_pos (Nat.lt_succ_self _)]]
  iintro ⟨Hmw, Ht, Hg, ⟨%X0, Hx⟩, ⟨%O0, Ho⟩, ⟨Hxi, Hxs⟩, ⟨Hoi, Hos⟩, Hs3, Hs4, ⟨%W, HO⟩⟩
  iapply (wp_wand_r Idealize.ShloMosaic.frame (wpE (defs₀ (F := F)) 𝒱₀ (thr d L) none) Set.univ)
  isplitl [Hmw Ht Hg Hx Ho Hxi Hoi Hs3 Hs4 HO]
  · iapply (image_trip d L A hA fo b acc O W X0 O0)
    isplitl [Hmw]; · iexact Hmw
    isplitl [Ht]; · iexact Ht
    isplitl [Hg]; · iexact Hg
    isplitl [Hx]; · iexact Hx
    isplitl [Ho]; · iexact Ho
    isplitl [Hxi]; · iexact Hxi
    isplitl [Hoi]; · iexact Hoi
    isplitl [Hs3]; · iexact Hs3
    isplitl [Hs4]; · iexact Hs4
    iexact HO
  iintro %v ⟨Hmw, Ht, Hg, Hx, Ho, Hxi, Hoi, Hs3, Hs4, HO⟩
  isplitl [Hmw]; · iexact Hmw
  isplitl [Ht]; · iexact Ht
  isplitl [Hg]; · iexact Hg
  isplitl [Hx]; · iexact Hx
  isplitl [Ho]; · iexact Ho
  isplitl [Hxi Hxs]
  · isplitl [Hxi]; · iexact Hxi
    iexact Hxs
  isplitl [Hoi Hos]
  · isplitl [Hoi]; · iexact Hoi
    iexact Hos
  isplitl [Hs3]; · iexact Hs3
  isplitl [Hs4]; · iexact Hs4
  iexact HO

/-! ## The tile's own buffers and semaphores -/

/-- The tile's semaphores are the five its copies count on, and the rest. -/
theorem ownSems0_tile :
    ∃ R : sProp 𝕄, (ownSems0 (thr d L) : sProp 𝕄)
      = iprop(semVal (thr d L, SemLoc.dma cc0_scoped0.sem) 0 ∗ semVal (thr d L, SemLoc.dma cc0_scoped1.sem) 0 ∗ semVal (thr d L, SemLoc.dma cc0_scoped2.sem) 0
          ∗ semVal (thr d L, SemLoc.dma cc0_scoped3.sem) 0 ∗ semVal (thr d L, SemLoc.dma cc0_scoped4.sem) 0 ∗ R) := by
  have hm : ∀ s : DmaSem sig, (SemLoc.dma s : SemLoc sig).isScoped .scVector = true → ((thr d L, SemLoc.dma s) : GSem nD τ sig) ∈ ownCells (thr d L) :=
    fun s h => mem_ownCells.mpr ⟨rfl, h⟩
  have hn : ∀ s s' : DmaSem sig, s ≠ s' → ((thr d L, SemLoc.dma s) : GSem nD τ sig) ≠ (thr d L, SemLoc.dma s') :=
    fun s s' h e => h (by injection e with _ e; injection e)
  refine ⟨bigSep ((((((ownCells (thr d L)).erase (thr d L, SemLoc.dma cc0_scoped0.sem)).erase (thr d L, SemLoc.dma cc0_scoped1.sem)).erase
    (thr d L, SemLoc.dma cc0_scoped2.sem)).erase (thr d L, SemLoc.dma cc0_scoped3.sem)).erase (thr d L, SemLoc.dma cc0_scoped4.sem)) fun g => semVal g 0, ?_⟩
  unfold SparseCore.Cfg.ownSems0
  rw [SparseCore.bigSep_erase' (hm cc0_scoped0.sem (by decide)),
    SparseCore.bigSep_erase' (Finset.mem_erase.mpr ⟨hn _ _ (by decide), hm cc0_scoped1.sem (by decide)⟩),
    SparseCore.bigSep_erase' (Finset.mem_erase.mpr ⟨hn _ _ (by decide), Finset.mem_erase.mpr ⟨hn _ _ (by decide), hm cc0_scoped2.sem (by decide)⟩⟩),
    SparseCore.bigSep_erase' (Finset.mem_erase.mpr ⟨hn _ _ (by decide), Finset.mem_erase.mpr ⟨hn _ _ (by decide), Finset.mem_erase.mpr ⟨hn _ _ (by decide),
      hm cc0_scoped3.sem (by decide)⟩⟩⟩),
    SparseCore.bigSep_erase' (Finset.mem_erase.mpr ⟨hn _ _ (by decide), Finset.mem_erase.mpr ⟨hn _ _ (by decide), Finset.mem_erase.mpr ⟨hn _ _ (by decide),
      Finset.mem_erase.mpr ⟨hn _ _ (by decide), hm cc0_scoped4.sem (by decide)⟩⟩⟩⟩)]

/-- The tile's buffers are its five scratches, each at some contents, and the rest. -/
theorem ownBufs_tile :
    ∃ R : sProp 𝕄, (ownBufs (thr d L) : sProp 𝕄)
      = iprop((∃ f, (sT).view.loc (thr d L) ↦{fullShare} f) ∗ (∃ f, (sC).view.loc (thr d L) ↦{fullShare} f) ∗ (∃ f, (sG).view.loc (thr d L) ↦{fullShare} f)
          ∗ (∃ f, (sX).view.loc (thr d L) ↦{fullShare} f) ∗ (∃ f, (sO).view.loc (thr d L) ↦{fullShare} f) ∗ R) := by
  have hm : ∀ r : Ref sig .scVector, ((Proc.scVector (cV L) (jV L)).devRef r).owner = .proc (.scVector (cV L) (jV L))
      → (Proc.scVector (cV L) (jV L)).devRef r ∈ ownRefs (τ := τ) (.scVector (cV L) (jV L)) :=
    fun r h => SparseCore.Cfg.mem_ownRefs_of_owner (p := Proc.scVector (cV L) (jV L)) h
  have hn : ∀ r r' : Ref sig .scVector, r ≠ r' → (Proc.scVector (cV L) (jV L)).devRef r ≠ (Proc.scVector (cV L) (jV L)).devRef r' :=
    fun r r' h e => h (Proc.devRef_injective _ e)
  refine ⟨bigSep ((((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4))
    fun b => iprop(∃ f, ((d, b) : Loc nD τ sig) ↦{fullShare} f), ?_⟩
  unfold SparseCore.Cfg.ownBufs
  refine (SparseCore.bigSep_erase' (hm cc0_scratch0 rfl)).trans ?_
  rw [SparseCore.bigSep_erase' (Finset.mem_erase.mpr ⟨hn cc0_scratch1 _ (by decide), hm cc0_scratch1 rfl⟩),
    SparseCore.bigSep_erase' (Finset.mem_erase.mpr ⟨hn cc0_scratch2 _ (by decide), Finset.mem_erase.mpr ⟨hn _ _ (by decide), hm cc0_scratch2 rfl⟩⟩),
    SparseCore.bigSep_erase' (Finset.mem_erase.mpr ⟨hn cc0_scratch3 _ (by decide), Finset.mem_erase.mpr ⟨hn _ _ (by decide), Finset.mem_erase.mpr ⟨hn _ _ (by decide),
      hm cc0_scratch3 rfl⟩⟩⟩),
    SparseCore.bigSep_erase' (Finset.mem_erase.mpr ⟨hn cc0_scratch4 _ (by decide), Finset.mem_erase.mpr ⟨hn _ _ (by decide), Finset.mem_erase.mpr ⟨hn _ _ (by decide),
      Finset.mem_erase.mpr ⟨hn _ _ (by decide), hm cc0_scratch4 rfl⟩⟩⟩⟩)]

/-! ## The body -/

theorem set_rows : ((rV).slice (tileRect L) (fun _ => rfl)).view.set = tileSet L := by
  show ((View.whole (main_v3_scv : Ref sig .scVector)).slice (tileRect L)).set = _
  rw [View.set_slice]; exact Finset.map_refl
theorem set_cols : ((cV').slice (tileRect L) (fun _ => rfl)).view.set = tileSet L := by
  show ((View.whole (main_v6_scv : Ref sig .scVector)).slice (tileRect L)).set = _
  rw [View.set_slice]; exact Finset.map_refl
theorem set_gate : ((gV).slice (tileRect L) (fun _ => rfl)).view.set = tileSet L := by
  show ((View.whole (main_v7_scv : Ref sig .scVector)).slice (tileRect L)).set = _
  rw [View.set_slice]; exact Finset.map_refl

/-- The tile's slices of the rows, the columns and the gate, as the body addresses them. -/
theorem pts_rows (f : Buf (Elt F) (rLoc d)) :
    (((rV).slice (tileRect L) (fun _ => rfl)).view.loc (thr d L) ↦[((rV).slice (tileRect L) (fun _ => rfl)).view.set]{fullShare} f : sProp 𝕄)
      = rLoc d ↦[tileSet L]{fullShare} f := by
  rw [set_rows]
theorem pts_cols (f : Buf (Elt F) (cLoc d)) :
    (((cV').slice (tileRect L) (fun _ => rfl)).view.loc (thr d L) ↦[((cV').slice (tileRect L) (fun _ => rfl)).view.set]{fullShare} f : sProp 𝕄)
      = cLoc d ↦[tileSet L]{fullShare} f := by
  rw [set_cols]
theorem pts_gate (f : Buf (Elt F) (gLoc d)) :
    (((gV).slice (tileRect L) (fun _ => rfl)).view.loc (thr d L) ↦[((gV).slice (tileRect L) (fun _ => rfl)).view.set]{fullShare} f : sProp 𝕄)
      = gLoc d ↦[tileSet L]{fullShare} f := by
  rw [set_gate]

/-- The body on one tile: its slices of the result, at first `fo`, are at `res A` afterwards. -/
theorem tile_body (hF : (K (F := F)).Facts) (A : Inputs F) (hA : A.Ok) (fo : Buf (Elt F) (oLoc d)) (O : CellTallies nD τ sig (HIx 1)) (W : Waits sig (HIx 1))
    (hO : ∀ g, O g none = 0) :
    iprop(levAts (K (F := F)).L (K (F := F)).lev ∗ emp ∗ tilePts d L A fo ∗ scopedBufs (thr d L) ∗ scopedSems0 (thr d L) ∗ owes (thr d L) O W)
      ⊢ wp frame (wpE (defs₀ (F := F)) 𝒱₀ (thr d L) none) Set.univ
          (cc0_body L xV (Memref.isWhole_whole _) rV (Memref.isWhole_whole _) cV' (Memref.isWhole_whole _) gV (Memref.isWhole_whole _) oV (Memref.isWhole_whole _)
            sT (Memref.isWhole_whole _) sC (Memref.isWhole_whole _) sG (Memref.isWhole_whole _) sX (Memref.isWhole_whole _) sO (Memref.isWhole_whole _)
            cc0_scoped0 cc0_scoped1 cc0_scoped2 cc0_scoped3 cc0_scoped4)
          fun _ => (iprop(tilePts d L A (res A) ∗ scopedBufs (thr d L) ∗ scopedSems0 (thr d L)
            ∗ ∃ W', ⌜∀ p ∈ W', p ∈ W ∨ p.2 = none ∨ p.2 = some (0 : Fin 1)⌝ ∗ owes (thr d L) O W') : sProp 𝕄) := by
  obtain ⟨RS, hRS⟩ := ownSems0_tile (F := F) d L
  obtain ⟨RB, hRB⟩ := ownBufs_tile (F := F) d L
  rw [(K (F := F)).scopedBufs_V hF d (cV L) (jV L), SparseCore.Cfg.scopedSems0_V (Val := Elt F) d (cV L) (jV L), hRS, hRB]
  unfold tilePts
  rw [← pts_rows, ← pts_cols, ← pts_gate, cc0_body_eq_skeleton]
  iintro ⟨#Hlv, -, ⟨Hr, Hc, Hg, Hxs, Hos⟩, ⟨⟨%f0, Hb0⟩, ⟨%f1, Hb1⟩, ⟨%f2, Hb2⟩, Hb3, Hb4, Hbufs⟩, ⟨Hs0, Hs1, Hs2, Hs3, Hs4, Hsems⟩, HO⟩
  ihave Hmw := (show levAts (K (F := F)).L (K (F := F)).lev ⊢ Transfers.MayWaits (thr d L) (default : HIx 1) O from
    (K (F := F)).mayWaits_none (thr := thr d L) hO) $$ Hlv
  unfold cc0_body_skel
  sl_exec
  have h0 : View.write (Elt F) (sT).view f0 (tile_body.sl.dma0 L A) Finset.univ = rs A L :=
    (View.write_whole_univ (Val := Elt F) (cc0_scratch0 : Ref sig .scVector) f0 _).trans rfl
  have h1 : View.write (Elt F) (sC).view f1 (tile_body.sl.dma0_1 L A) Finset.univ = cs A L :=
    (View.write_whole_univ (Val := Elt F) (cc0_scratch1 : Ref sig .scVector) f1 _).trans rfl
  have h2 : View.write (Elt F) (sG).view f2 (tile_body.sl.dma0_2 L A) Finset.univ = gs A L :=
    (View.write_whole_univ (Val := Elt F) (cc0_scratch2 : Ref sig .scVector) f2 _).trans rfl
  rw [h0, h1, h2]
  sl_for (inv1 d L (rs A L) (cs A L)) $$ [Hb0 Hb1]
  case region =>
    intro k acc
    exact plane_trip d L (rs A L) (cs A L) k acc
  · unfold inv1
    rw [show 3136 * 0 = 0 from rfl, mix_zero]
    isplitl [Hb0]; · iexact Hb0
    iexact Hb1
  iintro %acc HI
  unfold inv1
  rw [show Scf.trips k0_t1_loop.lb k0_t1_loop.ub k0_t1_loop.st = 6 from trips1, show 3136 * 6 = 18816 from rfl, mix_all]
  icases HI with ⟨Hb0, Hb1⟩
  sl_exec
  sl_for (inv3 d L A fo O) $$ [Hb0 Hb2 Hb3 Hb4 Hxs Hos Hs3 Hs4 HO]
  case region =>
    intro b acc2
    exact images_trip d L A hA fo O b acc2
  · unfold inv3
    isplitr; · iexact Hmw
    isplitl [Hb0]; · iexact Hb0
    isplitl [Hb2]; · iexact Hb2
    isplitl [Hb3]; · iexact Hb3
    isplitl [Hb4]; · iexact Hb4
    isplitl [Hxs]; · iexact Hxs
    isplitl [Hos]
    · rw [show (bigSep Finset.univ (oPiece d L A fo 0) : sProp 𝕄) = bigSep Finset.univ fun b : Fin k0_t3_loop.trips => oLoc d ↦[imgSet L b]{fullShare} fo from
        bigSep_congr fun b _ => by unfold oPiece; rw [if_neg (Nat.not_lt_zero _)]]
      iexact Hos
    isplitl [Hs3]; · iexact Hs3
    isplitl [Hs4]; · iexact Hs4
    iexists _; iexact HO
  iintro %acc2 HI
  unfold inv3
  rw [show (bigSep Finset.univ (oPiece d L A fo (Scf.trips k0_t3_loop.lb k0_t3_loop.ub k0_t3_loop.st)) : sProp 𝕄)
      = bigSep Finset.univ fun b : Fin k0_t3_loop.trips => oLoc d ↦[imgSet L b]{fullShare} res A from
    bigSep_congr fun b _ => by unfold oPiece; rw [if_pos b.isLt]]
  icases HI with ⟨-, Hb0, Hb2, Hb3, Hb4, Hxs, Hos, Hs3, Hs4, ⟨%W', HO⟩⟩
  sl_exec
  sl_step
  isplitl [Hr Hc Hg Hxs Hos]
  · isplitl [Hr]; · iexact Hr
    isplitl [Hc]; · iexact Hc
    isplitl [Hg]; · iexact Hg
    isplitl [Hxs]; · iexact Hxs
    iexact Hos
  isplitl [Hb0 Hb1 Hb2 Hb3 Hb4 Hbufs]
  · isplitl [Hb0]; · iexists _; iexact Hb0
    isplitl [Hb1]; · iexists _; iexact Hb1
    isplitl [Hb2]; · iexists _; iexact Hb2
    isplitl [Hb3]; · iexact Hb3
    isplitl [Hb4]; · iexact Hb4
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists W'; isplitr
  swap; · iexact HO
  ipureintro; intro p _
  rcases p.2 with _ | q
  · exact .inr (.inl rfl)
  · exact .inr (.inr (congrArg some (Subsingleton.elim q 0)))

end Cert.Proof.Ideal

end
-- ==== Proof.Ideal.Pieces.lean ====
/-
  The arrays in pieces: an array of one element per position of an image is the thirty-two tiles' slices of it, and an array over
  all images is, for every tile and every image, the tile's slice of that image.
-/
module

public import proofs.«01_k».proof.Proof.Ideal.Tile

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The coordinates of the tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile, and a tile with an image. -/
abbrev Tile : Type := Fin (grid0.bound 0) × Fin (grid0.bound 1)
abbrev TileImg : Type := Tile × Fin k0_t3_loop.trips

abbrev at1Set (p : Tile) : Finset S602112.Idx := tileSet (coordsV p.1 p.2)
abbrev at32Set (p : TileImg) : Finset S19267584.Idx := imgSet (coordsV p.1.1 p.1.2) p.2

theorem tile_off (p : Tile) : k0_off1 (coordsV p.1 p.2) 0 = 37632 * p.2.val + 18816 * p.1.val := by
  rw [k0_off1_eq]; simp [coordsV]
theorem img_off (p : TileImg) : k0_off3 (coordsV p.1.1 p.1.2) p.2 0 = 602112 * p.2.val + 37632 * p.1.2.val + 18816 * p.1.1.val := by
  rw [k0_off3_eq]; simp [coordsV]

theorem mem_at1Set (p : Tile) (y : S602112.Idx) :
    y ∈ at1Set p ↔ 37632 * p.2.val + 18816 * p.1.val ≤ (y 0).val ∧ (y 0).val < 37632 * p.2.val + 18816 * p.1.val + 18816 := by
  show y ∈ (Rect.unit (s := S602112) (k0_off1 (coordsV p.1 p.2)) S18816.size (k0_off1_inb _)).set ↔ _
  rw [Rect.mem_set_unit]
  constructor
  · intro h; have := h 0; rw [tile_off] at this; exact this
  · intro h a; obtain rfl : a = 0 := Fin.eq_zero a
    rw [tile_off]; exact h
theorem mem_at32Set (p : TileImg) (y : S19267584.Idx) :
    y ∈ at32Set p ↔ 602112 * p.2.val + 37632 * p.1.2.val + 18816 * p.1.1.val ≤ (y 0).val
      ∧ (y 0).val < 602112 * p.2.val + 37632 * p.1.2.val + 18816 * p.1.1.val + 18816 := by
  show y ∈ (Rect.unit (s := S19267584) (k0_off3 (coordsV p.1.1 p.1.2) p.2) S18816.size (k0_off3_inb _ _)).set ↔ _
  rw [Rect.mem_set_unit]
  constructor
  · intro h; have := h 0; rw [img_off] at this; exact this
  · intro h a; obtain rfl : a = 0 := Fin.eq_zero a
    rw [img_off]; exact h

/-- Two tiles' slices meet nowhere, and the slices fill the array. -/
theorem at1_disjoint : ∀ p ∈ (Finset.univ : Finset Tile), ∀ q ∈ (Finset.univ : Finset Tile), p ≠ q → Disjoint (at1Set p) (at1Set q) := by
  intro p _ q _ hne
  rw [Finset.disjoint_left]
  intro y hp hq
  rw [mem_at1Set] at hp hq
  have h1 : p.1.val < 2 := p.1.isLt
  have h2 : q.1.val < 2 := q.1.isLt
  exact hne (Prod.ext (Fin.ext (by omega)) (Fin.ext (by omega)))
theorem at1_cover : (Finset.univ : Finset Tile).biUnion at1Set = Finset.univ := by
  ext y
  refine ⟨fun _ => Finset.mem_univ _, fun _ => ?_⟩
  have hy : (y 0).val < 602112 := (y 0).isLt
  refine Finset.mem_biUnion.mpr ⟨(⟨(y 0).val / 18816 % 2, show _ < 2 by omega⟩, ⟨(y 0).val / 37632, show _ < 16 by omega⟩), Finset.mem_univ _, ?_⟩
  rw [mem_at1Set]
  dsimp only
  omega

/-- The same for the slices of the images. -/
theorem at32_disjoint : ∀ p ∈ (Finset.univ : Finset TileImg), ∀ q ∈ (Finset.univ : Finset TileImg), p ≠ q → Disjoint (at32Set p) (at32Set q) := by
  intro p _ q _ hne
  rw [Finset.disjoint_left]
  intro y hp hq
  rw [mem_at32Set] at hp hq
  have h1 : p.1.1.val < 2 := p.1.1.isLt
  have h2 : q.1.1.val < 2 := q.1.1.isLt
  have h3 : p.1.2.val < 16 := p.1.2.isLt
  have h4 : q.1.2.val < 16 := q.1.2.isLt
  exact hne (Prod.ext (Prod.ext (Fin.ext (by omega)) (Fin.ext (by omega))) (Fin.ext (by omega)))
set_option maxRecDepth 100000 in
theorem at32_cover : (Finset.univ : Finset TileImg).biUnion at32Set = Finset.univ := by
  ext y
  refine ⟨fun _ => Finset.mem_univ _, fun _ => ?_⟩
  have hy : (y 0).val < 19267584 := (y 0).isLt
  have hb : (y 0).val / 602112 < k0_t3_loop.trips := lt_of_lt_of_eq (Nat.div_lt_of_lt_mul (show (y 0).val < 602112 * 32 from hy)) trips3.symm
  have hs : (y 0).val / 37632 % 16 < grid0.bound 1 := Nat.mod_lt _ (show 0 < 16 by decide)
  have hc : (y 0).val / 18816 % 2 < grid0.bound 0 := Nat.mod_lt _ (show 0 < 2 by decide)
  have hp : ∃ p : TileImg, y ∈ at32Set p := by
    refine ⟨((⟨_, hc⟩, ⟨_, hs⟩), ⟨_, hb⟩), (mem_at32Set _ _).mpr ⟨?_, ?_⟩⟩
    · show 602112 * ((y 0).val / 602112) + 37632 * ((y 0).val / 37632 % 16) + 18816 * ((y 0).val / 18816 % 2) ≤ (y 0).val
      clear hb hs hc
      omega
    · show (y 0).val < 602112 * ((y 0).val / 602112) + 37632 * ((y 0).val / 37632 % 16) + 18816 * ((y 0).val / 18816 % 2) + 18816
      clear hb hs hc
      omega
  obtain ⟨p, hp⟩ := hp
  rw [Finset.mem_biUnion]
  exact ⟨p, Finset.mem_univ p, hp⟩

variable (d : Dev nD)

theorem rPts_tiles (f : Buf (Elt F) (rLoc d)) :
    (rLoc d ↦{fullShare} f : sProp 𝕄) = bigSep Finset.univ fun c => bigSep Finset.univ fun s => rLoc d ↦[tileSet (coordsV c s)]{fullShare} f := by
  rw [← bigSep_univ_prod fun p : Tile => (rLoc d ↦[at1Set p]{fullShare} f : sProp 𝕄), ← pointsTo_biUnion Finset.univ (ℓ := rLoc d) at1Set at1_disjoint, at1_cover]
theorem cPts_tiles (f : Buf (Elt F) (cLoc d)) :
    (cLoc d ↦{fullShare} f : sProp 𝕄) = bigSep Finset.univ fun c => bigSep Finset.univ fun s => cLoc d ↦[tileSet (coordsV c s)]{fullShare} f := by
  rw [← bigSep_univ_prod fun p : Tile => (cLoc d ↦[at1Set p]{fullShare} f : sProp 𝕄), ← pointsTo_biUnion Finset.univ (ℓ := cLoc d) at1Set at1_disjoint, at1_cover]
theorem gPts_tiles (f : Buf (Elt F) (gLoc d)) :
    (gLoc d ↦{fullShare} f : sProp 𝕄) = bigSep Finset.univ fun c => bigSep Finset.univ fun s => gLoc d ↦[tileSet (coordsV c s)]{fullShare} f := by
  rw [← bigSep_univ_prod fun p : Tile => (gLoc d ↦[at1Set p]{fullShare} f : sProp 𝕄), ← pointsTo_biUnion Finset.univ (ℓ := gLoc d) at1Set at1_disjoint, at1_cover]
theorem xPts_tiles (f : Buf (Elt F) (xLoc d)) :
    (xLoc d ↦{fullShare} f : sProp 𝕄)
      = bigSep Finset.univ fun c => bigSep Finset.univ fun s => bigSep Finset.univ fun b => xLoc d ↦[imgSet (coordsV c s) b]{fullShare} f := by
  rw [← bigSep_univ_prod fun p : Tile => (bigSep Finset.univ fun b => (xLoc d ↦[imgSet (coordsV p.1 p.2) b]{fullShare} f : sProp 𝕄)),
    ← bigSep_univ_prod fun p : TileImg => (xLoc d ↦[at32Set p]{fullShare} f : sProp 𝕄), ← pointsTo_biUnion Finset.univ (ℓ := xLoc d) at32Set at32_disjoint, at32_cover]
theorem oPts_tiles (f : Buf (Elt F) (oLoc d)) :
    (oLoc d ↦{fullShare} f : sProp 𝕄)
      = bigSep Finset.univ fun c => bigSep Finset.univ fun s => bigSep Finset.univ fun b => oLoc d ↦[imgSet (coordsV c s) b]{fullShare} f := by
  rw [← bigSep_univ_prod fun p : Tile => (bigSep Finset.univ fun b => (oLoc d ↦[imgSet (coordsV p.1 p.2) b]{fullShare} f : sProp 𝕄)),
    ← bigSep_univ_prod fun p : TileImg => (oLoc d ↦[at32Set p]{fullShare} f : sProp 𝕄), ← pointsTo_biUnion Finset.univ (ℓ := oLoc d) at32Set at32_disjoint, at32_cover]

/-- The five arrays whole are what the tiles own. -/
theorem whole_tiles (A : Inputs F) (fo : Buf (Elt F) (oLoc d)) :
    (iprop((rLoc d ↦{fullShare} A.r) ∗ (cLoc d ↦{fullShare} A.c) ∗ (gLoc d ↦{fullShare} A.g) ∗ (xLoc d ↦{fullShare} A.x) ∗ (oLoc d ↦{fullShare} fo)) : sProp 𝕄)
      = bigSep Finset.univ fun c => bigSep Finset.univ fun s => tilePts d (coordsV c s) A fo := by
  rw [rPts_tiles, cPts_tiles, gPts_tiles, xPts_tiles, oPts_tiles]
  unfold tilePts
  simp only [bigSep_sep']

end Cert.Proof.Ideal

end
-- ==== Proof.Ideal.Main.lean ====
/-
  The program's run: the host lines before the call, the call with its thirty-two tiles, the host line after it; what the memory then
  holds.
-/
module

public import proofs.«01_k».proof.Proof.Ideal.Pieces

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr held_sub_split wp_hlo_within after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host lines -/

/-- The host lines before the call: the flattening of `x`, the two slices of the prototype each flattened, the flattening of the gate. -/
def hostOps : List (HloOp τ sig (Elt F)) :=
  [StableHlo.reshape main_arg0 main_v0 (rfl : (.f32 : EltTy) = .f32) shapeCasts_S32x192x56x56_S19267584,
   StableHlo.unary main_arg2 main_v1 ((extractStridedSlice S1x192x56x56 ![0, 0, 0, 0] · slices_S2x192x56x56_S1x192x56x56_0_0_0_0) : (⟨S2x192x56x56, .i32⟩ : BufTy).Contents (Elt F) → (⟨S1x192x56x56, .i32⟩ : BufTy).Contents (Elt F)),
   StableHlo.reshape main_v1 main_v2 (rfl : (.i32 : EltTy) = .i32) shapeCasts_S1x192x56x56_S192x56x56,
   StableHlo.reshape main_v2 main_v3 (rfl : (.i32 : EltTy) = .i32) shapeCasts_S192x56x56_S602112,
   StableHlo.unary main_arg2 main_v4 ((extractStridedSlice S1x192x56x56 ![1, 0, 0, 0] · slices_S2x192x56x56_S1x192x56x56_1_0_0_0) : (⟨S2x192x56x56, .i32⟩ : BufTy).Contents (Elt F) → (⟨S1x192x56x56, .i32⟩ : BufTy).Contents (Elt F)),
   StableHlo.reshape main_v4 main_v5 (rfl : (.i32 : EltTy) = .i32) shapeCasts_S1x192x56x56_S192x56x56,
   StableHlo.reshape main_v5 main_v6 (rfl : (.i32 : EltTy) = .i32) shapeCasts_S192x56x56_S602112,
   StableHlo.reshape main_arg1 main_v7 (rfl : (.f32 : EltTy) = .f32) shapeCasts_S192x56x56_S602112]

/-- The host line after it: the result in its four axes. -/
abbrev lastOp : HloOp τ sig (Elt F) := StableHlo.reshape main_v8 main_v9 (rfl : (.f32 : EltTy) = .f32) shapeCasts_S19267584_S32x192x56x56

abbrev dr (r : Ref sig .tc) : DevRef τ sig := Proc.devRef .tc r

/-- The TensorCore's arrays; those of the call; those the claims read. -/
abbrev Sall : Finset (DevRef τ sig) :=
  {dr main_arg0, dr main_arg1, dr main_arg2, dr main_arg3, dr main_v0, dr main_v1, dr main_v2, dr main_v3, dr main_v4, dr main_v5, dr main_v6, dr main_v7, dr main_v8, dr main_v9}
abbrev Scall : Finset (DevRef τ sig) := {dr main_v3, dr main_v6, dr main_v7, dr main_v0, dr main_v8}
abbrev Sfin : Finset (DevRef τ sig) := {dr main_arg0, dr main_arg1, dr main_arg2, dr main_arg3, dr main_v9}

/-- The contents at launch, before the call, after it, and at the end. -/
def V0 (d : Dev nD) : Valuation τ sig (Elt F) := fun b => m (d, b)
def V1 (d : Dev nD) : Valuation τ sig (Elt F) := after hostOps (V0 m d)

/-- The four arrays the call reads. -/
def inputs (d : Dev nD) : Inputs F := ⟨V1 m d (dr main_v0), V1 m d (dr main_v3), V1 m d (dr main_v6), V1 m d (dr main_v7)⟩

def V2 (d : Dev nD) : Valuation τ sig (Elt F) := Function.update (V1 m d) (dr main_v8) (res (inputs m d))
def V3 (d : Dev nD) : Valuation τ sig (Elt F) := (lastOp (F := F)).result (V2 m d)

/-- The result, in its four axes. -/
def out (d : Dev nD) : S32x192x56x56.Idx → Elt F .f32 := shapeCast S32x192x56x56 (res (inputs m d)) shapeCasts_S19267584_S32x192x56x56

theorem unscoped_held (d : Dev nD) : (unscopedBufs d (fun b => m ((SparseCore.T d).loc b)) : sProp 𝕄) = held (T d) Sall (V0 m d) := by
  unfold unscopedBufs held Sall
  rw [show (Finset.univ.filter fun b : Ref sig .tc => ¬ b.isScoped)
      = {main_arg0, main_arg1, main_arg2, main_arg3, main_v0, main_v1, main_v2, main_v3, main_v4, main_v5, main_v6, main_v7, main_v8, main_v9} by decide]
  repeat rw [SparseCore.bigSep_insert' (by decide)]
  repeat rw [SparseCore.bigSep_insert' (by decide)]
  rw [bigSep_singleton, bigSep_singleton]
  rfl

/-! ## What the handshakes carry -/

theorem nCore_zero : (K (F := F)).nCore 0 = grid0.bound 0 := rfl
theorem nSub_zero : (K (F := F)).nSub 0 = grid0.bound 1 := rfl

/-- What the tile `i` of SparseCore `c` owns, its slices of the result at `fo`. -/
abbrev taskPts (d : Dev nD) (fo : Buf (Elt F) (oLoc d)) (c : Fin ((K (F := F)).nCore 0)) (i : Fin ((K (F := F)).nSub 0)) : sProp 𝕄 :=
  tilePts d (coordsV (Fin.cast nCore_zero c) (Fin.cast nSub_zero i)) (inputs m d) fo

/-- The call hands every tile its slices of the five arrays, and gets them back with the result written. -/
def P : (K (F := F)).Pay (nD := nD) (Val := Elt F) (Name := ℕ) (U := UU) where
  st := fun q d c => match q with | 0 => bigSep Finset.univ fun i => taskPts m d (m (oLoc d)) c i
  dn := fun q d c => match q with | 0 => bigSep Finset.univ fun i => taskPts m d (res (inputs m d)) c i
  go := fun q d c i => match q with | 0 => taskPts m d (m (oLoc d)) c i
  td := fun q d c i => match q with | 0 => taskPts m d (res (inputs m d)) c i
  x := fun _ _ => iprop(emp)

instance tilePts_storable (d : Dev nD) (L : grid0.Coords) (A : Inputs F) (fo : Buf (Elt F) (oLoc d)) : BI.Storable (upEmb : UEmb _ 𝕄) (tilePts d L A fo) := by
  unfold tilePts; infer_instance

instance P_storable : (P (F := F) m).IsStorable where
  st q d c := match q with | 0 => (inferInstance : BI.Storable (upEmb : UEmb _ 𝕄) (bigSep Finset.univ fun i => taskPts m d (m (oLoc d)) c i))
  dn q d c := match q with | 0 => (inferInstance : BI.Storable (upEmb : UEmb _ 𝕄) (bigSep Finset.univ fun i => taskPts m d (res (inputs m d)) c i))
  go q d c i := match q with | 0 => (inferInstance : BI.Storable (upEmb : UEmb _ 𝕄) (taskPts m d (m (oLoc d)) c i))
  td q d c i := match q with | 0 => (inferInstance : BI.Storable (upEmb : UEmb _ 𝕄) (taskPts m d (res (inputs m d)) c i))

/-! ## The tiles -/

theorem defs₀_vector (c : Fin τ.nSC) (s : Fin τ.nSub) :
    defs₀ (F := F) (.scVector c s) 0 ()
      = SparseCore.onTile hcore0 hsub0 (fun c s => cc0_body (coordsV c s)
          (Memref.whole main_v0_scv) (Memref.isWhole_whole _) (Memref.whole main_v3_scv) (Memref.isWhole_whole _) (Memref.whole main_v6_scv) (Memref.isWhole_whole _)
          (Memref.whole main_v7_scv) (Memref.isWhole_whole _) (Memref.whole main_v8_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scoped0 cc0_scoped1 cc0_scoped2 cc0_scoped3 cc0_scoped4) ⟨⟩ c s := rfl

theorem tileObl (hF : (K (F := F)).Facts) (hA : ∀ d, (inputs m d).Ok) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (inputs m d) (hA d) (m (oLoc d)) O W hO

theorem split_self (a b : sProp 𝕄) : a ⊢ |={Set.univ}=> iprop(a ∗ (b -∗ b)) := by
  iintro H; imodintro
  isplitl [H]; · iexact H
  iintro H; iexact H

theorem P_st (d : Dev nD) (c : Fin ((K (F := F)).nCore 0)) : (P m).st 0 d c = bigSep Finset.univ fun i => taskPts m d (m (oLoc d)) c i := rfl
theorem P_dn (d : Dev nD) (c : Fin ((K (F := F)).nCore 0)) : (P m).dn 0 d c = bigSep Finset.univ fun i => taskPts m d (res (inputs m d)) c i := rfl
theorem P_go (d : Dev nD) (c : Fin ((K (F := F)).nCore 0)) (i : Fin ((K (F := F)).nSub 0)) : (P m).go 0 d c i = taskPts m d (m (oLoc d)) c i := rfl
theorem P_td (d : Dev nD) (c : Fin ((K (F := F)).nCore 0)) (i : Fin ((K (F := F)).nSub 0)) : (P m).td 0 d c i = taskPts m d (res (inputs m d)) c i := rfl

/-- A SparseCore's pieces are its tiles' pieces, before and after. -/
theorem vecSplit : (K (F := F)).VecSplit' (P m) 0 := by
  unfold SparseCore.Cfg.VecSplit'
  intro d c
  simp only [P_st, P_dn, P_go, P_td]
  exact split_self _ _

/-! ## The launch element -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The five arrays of the call, held, are what the tiles own together. -/
theorem held_call (d : Dev nD) (V : Valuation τ sig (Elt F)) (A : Inputs F) (fo : Buf (Elt F) (oLoc d))
    (hr : V (dr main_v3) = A.r) (hc : V (dr main_v6) = A.c) (hg : V (dr main_v7) = A.g) (hx : V (dr main_v0) = A.x) (ho : V (dr main_v8) = fo) :
    (held (T d) Scall V : sProp 𝕄) = bigSep Finset.univ fun c => bigSep Finset.univ fun s => tilePts d (coordsV c s) A fo := by
  rw [← whole_tiles]
  unfold held Scall
  rw [SparseCore.bigSep_insert' (by decide), SparseCore.bigSep_insert' (by decide), SparseCore.bigSep_insert' (by decide), SparseCore.bigSep_insert' (by decide), bigSep_singleton,
    hr, hc, hg, hx, ho]

theorem st0_eq (d : Dev nD) :
    (bigSep Finset.univ fun c : Fin ((K (F := F)).nCore 0) => (P m).st 0 d c)
      = bigSep Finset.univ fun c => bigSep Finset.univ fun s => tilePts d (coordsV c s) (inputs m d) (m (oLoc d)) := rfl
theorem dn0_eq (d : Dev nD) :
    (bigSep Finset.univ fun c : Fin ((K (F := F)).nCore 0) => (P m).dn 0 d c)
      = bigSep Finset.univ fun c => bigSep Finset.univ fun s => tilePts d (coordsV c s) (inputs m d) (res (inputs m d)) := rfl

/-- The host lines before the call write none of the arguments and not the call's result. -/
theorem V1_kept (d : Dev nD) (r : Ref sig .tc) (hr : r ∉ [main_v0, main_v1, main_v2, main_v3, main_v4, main_v5, main_v6, main_v7]) :
    V1 m d (dr r) = m (d, dr r) :=
  StableHlo.after_of_writes_sub hostOps (V0 m d) (StableHlo.forall_writes_sub_of_map rfl) hr

theorem V2_ne (d : Dev nD) (r : Ref sig .tc) (hr : r ≠ main_v8) : V2 m d (dr r) = V1 m d (dr r) :=
  Function.update_of_ne (StableHlo.devRef_ne_of_ne hr) _ _
theorem V2_out (d : Dev nD) : V2 m d (dr main_v8) = res (inputs m d) := Function.update_self _ _ _

theorem V3_arg (d : Dev nD) (r : Ref sig .tc) (hr : r ∉ [main_v0, main_v1, main_v2, main_v3, main_v4, main_v5, main_v6, main_v7]) (h8 : r ≠ main_v8) (h9 : r ≠ main_v9) :
    V3 m d (dr r) = m (d, dr r) := by
  unfold V3
  rw [StableHlo.reshape_result_ne _ _ _ _ _ _ _ h9, V2_ne m d r h8, V1_kept m d r hr]
theorem V3_out (d : Dev nD) : V3 m d (dr main_v9) = out m d := by
  unfold V3
  rw [StableHlo.reshape_result, V2_out]
  rfl

/-- What @main leaves: the arguments as they were, the result written. -/
abbrev FIN (d : Dev nD) : sProp 𝕄 := held (T d) Sfin (V3 m d)

theorem main_eq (d : Dev nD) : main (F := F) d = StableHlo.seq hostOps >>= fun _ => (do
    sc.run d 0
    hlo rfl (lastOp (F := F)) (fun _ => .ret ⟨⟩)
    pure ⟨⟩) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d Sall _ hostOps (by
    intro op hop
    simp only [hostOps, List.mem_cons, List.not_mem_nil, or_false] at hop
    rcases hop with rfl | rfl | rfl | rfl | rfl | rfl | rfl | rfl <;>
      first | (rw [StableHlo.reshape_bufs]; decide) | (rw [StableHlo.unary_bufs]; decide)) (by
    intro op hop
    simp only [hostOps, List.mem_cons, List.not_mem_nil, or_false] at hop
    rcases hop with rfl | rfl | rfl | rfl | rfl | rfl | rfl | rfl <;> rfl) (V0 m d)) $$ [Hb Hheld]
  · isplitl [Hb] <;> iassumption
  iintro ⟨Hb, Hheld⟩
  simp only [wp_bind, wp_pure]
  ihave Hh := (Entails.of_eq (show (held (SparseCore.T d) Sall (after hostOps (V0 m d)) : sProp 𝕄) = iprop(held (SparseCore.T d) Scall (V1 m d) ∗ held (SparseCore.T d) (Sall \ Scall) (V1 m d)) from
    held_sub_split _ (by decide) _)) $$ Hheld
  icases Hh with ⟨Hc, Hrest⟩
  iapply ((K (F := F)).wp_run (D (F := F)) 𝒱 (EH := EH) (P := P m) κ d 0) $$ [Hst Hc Hb Hrest Hts]
  isplitr; · iexact Hctx
  isplitl [Hst]; · iexact Hst
  isplitl [Hc]
  · rw [st0_eq, ← held_call d (V1 m d) (inputs m d) (m (oLoc d)) rfl rfl rfl rfl (V1_kept m d main_v8 (by decide))]
    iexact Hc
  iintro ⟨Hst, Hdn⟩
  ihave Hdn' := (Entails.of_eq ((dn0_eq m d).trans (held_call d (V2 m d) (inputs m d) (res (inputs m d)) (V2_ne m d _ (by decide)) (V2_ne m d _ (by decide))
    (V2_ne m d _ (by decide)) (V2_ne m d _ (by decide)) (V2_out m d)).symm)) $$ Hdn
  iapply (wp_hlo_within 𝒱 (SparseCore.T d) none Set.univ (op := lastOp) (S := Sall) (by rw [StableHlo.reshape_bufs]; decide) (V := V2 m d)) $$ [Hb Hdn' Hrest]
  · isplitl [Hb]; · iexact Hb
    rw [held_sub_split (SparseCore.T d) (show Scall ⊆ Sall by decide) (V2 m d)]
    isplitl [Hdn']; · iexact Hdn'
    rw [held_congr (SparseCore.T d) (V := V2 m d) (V' := V1 m d) (S := Sall \ Scall) (fun b hb => Function.update_of_ne (fun e => by
      subst e; exact absurd hb (by decide)) _ _)]
    iexact Hrest
  iintro ⟨Hb, Hheld⟩
  ihave Hh := (Entails.of_eq (show (held (SparseCore.T d) Sall ((lastOp (F := F)).result (V2 m d)) : sProp 𝕄)
      = iprop(held (SparseCore.T d) Sfin (V3 m d) ∗ held (SparseCore.T d) (Sall \ Sfin) (V3 m d)) from held_sub_split _ (by decide) _)) $$ Hheld
  icases Hh with ⟨Hfin, -⟩
  rw [wp_ret]; imodintro; imodintro
  isplitl [Hst]; · iexact Hst
  isplitl [Hfin]; · iexact Hfin
  isplitl [Hb] <;> iassumption

/-! ## The final memory -/

/-- What the claims read of device `d`'s memory at the end. -/
def fq (d : Dev nD) (s' : Phys nD τ sig (Elt F)) : Prop := ∀ b ∈ Sfin, s'.mem.mem ((d, b) : Loc nD τ sig) = V3 m d b

theorem hfin (d : Dev nD) (s' : Phys nD τ sig (Elt F)) : iprop(FIN m d ∗ SI s') ⊢ (⌜fq m d s'⌝ : sProp 𝕄) := by
  have key : ∀ b ∈ Sfin, iprop(FIN m d ∗ SI s') ⊢ (⌜s'.mem.mem ((d, b) : Loc nD τ sig) = V3 m d b⌝ : sProp 𝕄) := by
    intro b hb
    unfold FIN held
    rw [SparseCore.bigSep_erase' hb]
    iintro ⟨⟨Hx, -⟩, HSI⟩
    ihave H := (SI_pointsTo_agree (st := s') (ℓ := ((d, b) : Loc nD τ sig)) (I := Finset.univ) (q := fullShare) (f := V3 m d b)) $$ [HSI Hx]
    · isplitl [HSI] <;> iassumption
    icases H with %hx
    ipureintro; exact funext fun i => hx i (Finset.mem_univ i)
  by_cases h : ∀ b ∈ Sfin, s'.mem.mem ((d, b) : Loc nD τ sig) = V3 m d b
  · iintro -; ipureintro; exact h
  · push Not at h
    obtain ⟨b, hb, hne⟩ := h
    refine (key b hb).trans ?_
    iintro %e; exact absurd e hne

/-- Every run ends with the arguments as they were, the result `out`, and every semaphore at zero. -/
def QC : PUnit × MemSt nD τ sig (Elt F) → Prop := fun r => (∀ c : Dev nD, ∀ b ∈ Sfin, r.2.mem ((c, b) : Loc nD τ sig) = V3 m c b) ∧ r.2.sem = fun _ => 0

theorem run_main [∀ e, Nonempty (Elt F e)] (hA : ∀ d, (inputs m d).Ok) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hA)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ideal

end
-- ==== Proof.Ideal.Points.lean ====
/-
  Points of the arrays by their coordinates, and what the host lines' slices, reshapes and flattenings read at them.
-/
module

public import proofs.«01_k».proof.Proof.Ideal.Setup
public import Idealize.ShloMosaic.Lib.ValueIdxCore
public import Idealize.ShloMosaic.Lib.Pipeline.Value

@[expose] public section

noncomputable section

namespace Cert.Proof.Ideal

open Cert.KernelIdeal Cert.KernelIdeal.Gen
open Idealize.ShloMosaic Idealize.ShloMosaic.ValueIdx

variable {α : Type}

/-- A point of an image's plane: channel, row, column. -/
abbrev Pt : Type := S192x56x56.Idx

/-- The point of an image that a point of the batch lies at. -/
def ptOf (y : S32x192x56x56.Idx) : Pt := ix3 (n0 := 192) (n1 := 56) (n2 := 56) (y 1) (y 2) (y 3)

/-- Entry `s` (0: row, 1: column) of the prototype at a point. -/
def entry (s : Fin 2) (k : Pt) : S2x192x56x56.Idx := ix4 (n0 := 2) (n1 := 192) (n2 := 56) (n3 := 56) s (k 0) (k 1) (k 2)

/-- The point of the batch at row `r` and column `c` of the plane that `y` lies in. -/
def inPlane (y : S32x192x56x56.Idx) (r c : Fin 56) : S32x192x56x56.Idx := ix4 (n0 := 32) (n1 := 192) (n2 := 56) (n3 := 56) (y 0) (y 1) r c

/-- Where a point lies in the flattened image, and where a point of the batch lies in the flattened batch. -/
def flat1 (k : Pt) : Nat := ((k 0).val * 56 + (k 1).val) * 56 + (k 2).val
def flat32 (y : S32x192x56x56.Idx) : Nat := (((y 0).val * 192 + (y 1).val) * 56 + (y 2).val) * 56 + (y 3).val

theorem flat1_lt (k : Pt) : flat1 k < 602112 := by
  have h0 : (k 0).val < 192 := (k 0).isLt
  have h1 : (k 1).val < 56 := (k 1).isLt
  have h2 : (k 2).val < 56 := (k 2).isLt
  unfold flat1; omega

theorem flat32_lt (y : S32x192x56x56.Idx) : flat32 y < 19267584 := by
  have h0 : (y 0).val < 32 := (y 0).isLt
  have h1 : (y 1).val < 192 := (y 1).isLt
  have h2 : (y 2).val < 56 := (y 2).isLt
  have h3 : (y 3).val < 56 := (y 3).isLt
  unfold flat32; omega

theorem at1_val (n : Nat) : ((at1 n) 0).val = n % 602112 := rfl
theorem at32_val (n : Nat) : ((at32 n) 0).val = n % 19267584 := rfl

/-- Every position of a flattened image is a point's. -/
theorem flat1_onto (p : S602112.Idx) : ∃ k : Pt, p = at1 (flat1 k) := by
  have hp : (p 0).val < 602112 := (p 0).isLt
  refine ⟨ix3 (n0 := 192) (n1 := 56) (n2 := 56) ⟨(p 0).val / 3136, by omega⟩ ⟨(p 0).val / 56 % 56, by omega⟩ ⟨(p 0).val % 56, by omega⟩, ?_⟩
  funext a; obtain rfl : a = 0 := Fin.eq_zero a
  apply Fin.ext
  rw [at1_val]
  show (p 0).val = (((p 0).val / 3136 * 56 + (p 0).val / 56 % 56) * 56 + (p 0).val % 56) % 602112
  omega

/-- A flattened image read at a point's position is the image at the point. -/
theorem flatten1 (v : S192x56x56.Idx → α) (h : S192x56x56.ShapeCasts S602112) (k : Pt) : shapeCast S602112 v h (at1 (flat1 k)) = v k := by
  refine shapeCast_apply v h _ k ?_
  rw [Shape.rowMajor_val_three, Shape.rowMajor_val_one, at1_val, Nat.mod_eq_of_lt (flat1_lt k)]
  rfl

/-- A flattened batch read at a point's position is the batch at the point. -/
theorem flatten32 (v : S32x192x56x56.Idx → α) (h : S32x192x56x56.ShapeCasts S19267584) (y : S32x192x56x56.Idx) :
    shapeCast S19267584 v h (at32 (flat32 y)) = v y := by
  refine shapeCast_apply v h _ y ?_
  rw [Shape.rowMajor_val_four, Shape.rowMajor_val_one, at32_val, Nat.mod_eq_of_lt (flat32_lt y)]
  rfl

/-- A flat array brought into the batch's four axes reads, at a point, the flat array at the point's position. -/
theorem unflatten32 (v : S19267584.Idx → α) (h : S19267584.ShapeCasts S32x192x56x56) (y : S32x192x56x56.Idx) :
    shapeCast S32x192x56x56 v h y = v (at32 (flat32 y)) := by
  refine shapeCast_apply v h y _ ?_
  rw [Shape.rowMajor_val_four, Shape.rowMajor_val_one, at32_val, Nat.mod_eq_of_lt (flat32_lt y)]
  rfl

/-- The first slice of the prototype, without its unit axis, holds the rows. -/
theorem slice_rows (v : S2x192x56x56.Idx → α) (h : S2x192x56x56.Slices ![0, 0, 0, 0] S1x192x56x56) (h' : S1x192x56x56.ShapeCasts S192x56x56) (k : Pt) :
    shapeCast S192x56x56 (extractStridedSlice S1x192x56x56 ![0, 0, 0, 0] v h) h' k = v (entry 0 k) := by
  rw [shapeCast_apply _ h' k (ix4 (n0 := 1) (n1 := 192) (n2 := 56) (n3 := 56) 0 (k 0) (k 1) (k 2))
    (by rw [Shape.rowMajor_val_three, Shape.rowMajor_val_four]; show ((0 * 192 + (k 0).val) * 56 + (k 1).val) * 56 + (k 2).val = _; simp)]
  unfold extractStridedSlice
  refine congrArg v (funext fun a => Fin.ext ?_)
  match a with
  | ⟨0, _⟩ => rfl
  | ⟨1, _⟩ => exact Nat.zero_add _
  | ⟨2, _⟩ => exact Nat.zero_add _
  | ⟨3, _⟩ => exact Nat.zero_add _

/-- The second slice, without its unit axis, holds the columns. -/
theorem slice_cols (v : S2x192x56x56.Idx → α) (h : S2x192x56x56.Slices ![1, 0, 0, 0] S1x192x56x56) (h' : S1x192x56x56.ShapeCasts S192x56x56) (k : Pt) :
    shapeCast S192x56x56 (extractStridedSlice S1x192x56x56 ![1, 0, 0, 0] v h) h' k = v (entry 1 k) := by
  rw [shapeCast_apply _ h' k (ix4 (n0 := 1) (n1 := 192) (n2 := 56) (n3 := 56) 0 (k 0) (k 1) (k 2))
    (by rw [Shape.rowMajor_val_three, Shape.rowMajor_val_four]; show ((0 * 192 + (k 0).val) * 56 + (k 1).val) * 56 + (k 2).val = _; simp)]
  unfold extractStridedSlice
  refine congrArg v (funext fun a => Fin.ext ?_)
  match a with
  | ⟨0, _⟩ => rfl
  | ⟨1, _⟩ => exact Nat.zero_add _
  | ⟨2, _⟩ => exact Nat.zero_add _
  | ⟨3, _⟩ => exact Nat.zero_add _

end Cert.Proof.Ideal

end
-- ==== Proof.Ideal.Range.lean ====
/-
  The two preconditions read back as statements about words: every row and column word is below 56, and every channel word is its
  own channel.
-/
module

public import proofs.«01_k».proof.Proof.Ideal.Points
public import proofs.«01_k».proof.Proof.Gen.Pre_in_plane
public import proofs.«01_k».proof.Proof.Gen.Pre_own_channel
public import Idealize.ShloMosaic.Lib.ReduceAll

@[expose] public section

noncomputable section

namespace Cert.Proof.Ideal

open Cert.KernelIdeal
open Idealize.ShloMosaic

variable {F : FTy → Type} [FloatOps F]

/-- A word that is at least 0 and less than 56, read signed, is below 56. -/
theorem word_lt (w : BitVec 32) (h0 : IntOp.cmpi .sge w 0#32 = 1#1) (h1 : IntOp.cmpi .slt w 56#32 = 1#1) : w.toNat < 56 := by
  have e0 : (0#32).sle w = true := by
    cases hb : (0#32).sle w with
    | true => rfl
    | false => simp [IntOp.cmpi, hb] at h0
  have e1 : w.slt 56#32 = true := by
    cases hb : w.slt 56#32 with
    | true => rfl
    | false => simp [IntOp.cmpi, hb] at h1
  have i0 : (0 : Int) ≤ w.toInt := by simpa [BitVec.sle] using e0
  have i1 : w.toInt < 56 := by simpa [BitVec.slt] using e1
  rw [BitVec.toInt_eq_toNat_cond] at i0 i1
  have := w.isLt
  split at i0 <;> omega

instance : Subsingleton (⟨0, ![]⟩ : Shape).Idx := ⟨fun _ _ => funext fun a => a.elim0⟩

theorem both {a b : BitVec 1} (h : IntOp.andi a b = 1#1) : a = 1#1 ∧ b = 1#1 := IntOp.andi_eq_one.1 h

/-- Under `in_plane` every entry of the prototype is below 56. -/
theorem in_plane_lt (x : FVec F S32x192x56x56 .f32) (g : FVec F S192x56x56 .f32) (p : IVec S2x192x56x56 32) (c : IVec S192x56x56 32)
    (h : Cert.Pre_in_plane.fn (F := F) x g p c = fun _ => 1#1) (i : S2x192x56x56.Idx) : (p i).toNat < 56 := by
  have e := congrFun h (fun a => a.elim0)
  obtain ⟨ha, hb⟩ := both e
  exact word_lt _ (Host.reduce_andi_all _ _ _ _ _ ha i) (Host.reduce_andi_all _ _ _ _ _ hb i)

/-- Under `own_channel` every entry of the prototype is below 56 … -/
theorem own_channel_lt (x : FVec F S32x192x56x56 .f32) (g : FVec F S192x56x56 .f32) (p : IVec S2x192x56x56 32) (c : IVec S192x56x56 32)
    (h : Cert.Pre_own_channel.fn (F := F) x g p c = fun _ => 1#1) (i : S2x192x56x56.Idx) : (p i).toNat < 56 := by
  have e := congrFun h (fun a => a.elim0)
  obtain ⟨ha, hb⟩ := both (both e).1
  exact word_lt _ (Host.reduce_andi_all _ _ _ _ _ ha i) (Host.reduce_andi_all _ _ _ _ _ hb i)

/-- … and the channel word at a point is the point's channel. -/
theorem own_channel_eq (x : FVec F S32x192x56x56 .f32) (g : FVec F S192x56x56 .f32) (p : IVec S2x192x56x56 32) (c : IVec S192x56x56 32)
    (h : Cert.Pre_own_channel.fn (F := F) x g p c = fun _ => 1#1) (k : Pt) : c k = BitVec.ofNat 32 (k 0).val := by
  have e := congrFun h (fun a => a.elim0)
  have hk : IntOp.cmpi .eq (c k) (BitVec.ofNat 32 (k 0).val) = 1#1 := Host.reduce_andi_all _ _ _ _ _ (both e).2 k
  by_contra hne
  simp only [IntOp.cmpi] at hk
  rw [beq_eq_false_iff_ne.mpr hne] at hk
  exact absurd hk (by decide)

end Cert.Proof.Ideal

end
-- ==== Proof.Ideal.Result.lean ====
/-
  The kernel's result at a point, from the arguments: what the call's four flat arrays hold, and the gated value at each point of the
  batch.
-/
module

public import proofs.«01_k».proof.Proof.Ideal.Main
public import proofs.«01_k».proof.Proof.Ideal.Range

@[expose] public section

noncomputable section

namespace Cert.Proof.Ideal

open Cert.KernelIdeal Cert.KernelIdeal.Gen
open Idealize.ShloMosaic
open Idealize.ShloMosaic.StableHlo (after)

variable {F : FTy → Type} [FloatOps F]

variable (m : (ℓ : Loc nD τ sig) → Buf (Elt F) ℓ)

/-- The four arguments. -/
def argX (d : Dev nD) : S32x192x56x56.Idx → Elt F .f32 := m (d, dr main_arg0)
def argG (d : Dev nD) : S192x56x56.Idx → Elt F .f32 := m (d, dr main_arg1)
def argP (d : Dev nD) : S2x192x56x56.Idx → Elt F .i32 := m (d, dr main_arg2)

theorem inputs_x (d : Dev nD) : (inputs m d).x = shapeCast S19267584 (argX m d) shapeCasts_S32x192x56x56_S19267584 := by
  show after hostOps (V0 m d) (dr main_v0) = _
  unfold hostOps
  after_results_simp
  rfl

theorem inputs_r (d : Dev nD) : (inputs m d).r = shapeCast S602112 (shapeCast S192x56x56
    (extractStridedSlice S1x192x56x56 ![0, 0, 0, 0] (argP m d) slices_S2x192x56x56_S1x192x56x56_0_0_0_0) shapeCasts_S1x192x56x56_S192x56x56)
    shapeCasts_S192x56x56_S602112 := by
  show after hostOps (V0 m d) (dr main_v3) = _
  unfold hostOps
  after_results_simp
  rfl

theorem inputs_c (d : Dev nD) : (inputs m d).c = shapeCast S602112 (shapeCast S192x56x56
    (extractStridedSlice S1x192x56x56 ![1, 0, 0, 0] (argP m d) slices_S2x192x56x56_S1x192x56x56_1_0_0_0) shapeCasts_S1x192x56x56_S192x56x56)
    shapeCasts_S192x56x56_S602112 := by
  show after hostOps (V0 m d) (dr main_v6) = _
  unfold hostOps
  after_results_simp
  rfl

theorem inputs_g (d : Dev nD) : (inputs m d).g = shapeCast S602112 (argG m d) shapeCasts_S192x56x56_S602112 := by
  show after hostOps (V0 m d) (dr main_v7) = _
  unfold hostOps
  after_results_simp
  rfl

/-- The flat arrays at a point's position: `x`, the row, the column and the gate at the point. -/
theorem inputs_x_at (d : Dev nD) (y : S32x192x56x56.Idx) : (inputs m d).x (at32 (flat32 y)) = argX m d y := by
  rw [inputs_x]; exact flatten32 _ _ y
theorem inputs_r_at (d : Dev nD) (k : Pt) : (inputs m d).r (at1 (flat1 k)) = argP m d (entry 0 k) := by
  rw [inputs_r]; exact (flatten1 _ _ k).trans (slice_rows _ _ _ k)
theorem inputs_c_at (d : Dev nD) (k : Pt) : (inputs m d).c (at1 (flat1 k)) = argP m d (entry 1 k) := by
  rw [inputs_c]; exact (flatten1 _ _ k).trans (slice_cols _ _ _ k)
theorem inputs_g_at (d : Dev nD) (k : Pt) : (inputs m d).g (at1 (flat1 k)) = argG m d k := by
  rw [inputs_g]; exact flatten1 _ _ k

/-- A prototype below 56 makes the call's rows and columns below 56. -/
theorem inputs_ok (d : Dev nD) (h : ∀ i, BitVec.toNat (argP m d i) < 56) : (inputs m d).Ok := by
  constructor
  · intro p
    obtain ⟨k, rfl⟩ := flat1_onto p
    rw [inputs_r_at]; exact h _
  · intro p
    obtain ⟨k, rfl⟩ := flat1_onto p
    rw [inputs_c_at]; exact h _

/-- THE RESULT AT A POINT: `x` there, gated by the blend of it with the element of its own plane that the prototype names. -/
theorem out_at (d : Dev nD) (h : ∀ i, BitVec.toNat (argP m d i) < 56) (y : S32x192x56x56.Idx) :
    out m d y = gate (argX m d y) (argG m d (ptOf y))
      (argX m d (inPlane y ⟨BitVec.toNat (argP m d (entry 0 (ptOf y))), h _⟩ ⟨BitVec.toNat (argP m d (entry 1 (ptOf y))), h _⟩)) := by
  have h1 : (y 1).val < 192 := (y 1).isLt
  have h2 : (y 2).val < 56 := (y 2).isLt
  have h3 : (y 3).val < 56 := (y 3).isLt
  have hr := h (entry 0 (ptOf y))
  have hc := h (entry 1 (ptOf y))
  have e1 : at1 ((at32 (flat32 y)) 0).val = at1 (flat1 (ptOf y)) := by
    funext a; obtain rfl : a = 0 := Fin.eq_zero a
    apply Fin.ext
    rw [at1_val, at1_val, at32_val, Nat.mod_eq_of_lt (flat32_lt y), Nat.mod_eq_of_lt (flat1_lt _)]
    show ((((y 0).val * 192 + (y 1).val) * 56 + (y 2).val) * 56 + (y 3).val) % 602112 = ((y 1).val * 56 + (y 2).val) * 56 + (y 3).val
    omega
  refine (unflatten32 _ _ y).trans ?_
  unfold res
  rw [e1, inputs_x_at, inputs_g_at, inputs_r_at, inputs_c_at]
  refine congrArg (gate _ _) ?_
  rw [← inputs_x_at]
  refine congrArg (inputs m d).x (funext fun a => ?_)
  obtain rfl : a = 0 := Fin.eq_zero a
  apply Fin.ext
  rw [at32_val, at32_val, at32_val, Nat.mod_eq_of_lt (flat32_lt y), Nat.mod_eq_of_lt (flat32_lt _)]
  have h0 : (y 0).val < 32 := (y 0).isLt
  show ((((y 0).val * 192 + (y 1).val) * 56 + (y 2).val) * 56 + (y 3).val - ((((y 0).val * 192 + (y 1).val) * 56 + (y 2).val) * 56 + (y 3).val) % 3136
      + (BitVec.toNat (argP m d (entry 0 (ptOf y))) * 56 + BitVec.toNat (argP m d (entry 1 (ptOf y))))) % 19267584
    = (((y 0).val * 192 + (y 1).val) * 56 + BitVec.toNat (argP m d (entry 0 (ptOf y)))) * 56 + BitVec.toNat (argP m d (entry 1 (ptOf y)))
  generalize BitVec.toNat (argP m d (entry 0 (ptOf y))) = R at hr ⊢
  generalize BitVec.toNat (argP m d (entry 1 (ptOf y))) = C at hc ⊢
  omega

end Cert.Proof.Ideal

end
-- ==== Proof.Reference.lean ====
/-
  The reference at a point: its gather reads the element that the point's channel, row and column words name, and its result is `x`
  times 1 where the blend is positive and `x` times 0 elsewhere.
-/
module

public import proofs.«01_k».proof.Proof.Gen.ReferenceIdeal.Run
public import proofs.«01_k».proof.Proof.Ideal.Range
public import Idealize.ShloMosaic.PureOps.Ideal.Laws
public import Idealize.ShloMosaic.Lib.IdealHost

@[expose] public section

noncomputable section

namespace Cert.Proof.Reference

open Cert.ReferenceIdeal Cert.ReferenceIdeal.Gen
open Cert.Proof.Ideal (Pt ptOf entry inPlane slice_rows slice_cols)
open Idealize.ShloMosaic Idealize.ShloMosaic.ValueIdx

/-! ## The index words -/

/-- A word below 2³¹ is not negative: the step that adds `n` to negative words leaves it. -/
theorem wrap_small (w n : BitVec 32) (hw : w.toNat < 2 ^ 31) : IntOp.cmpi .slt w 0#32 ≠ 1#1 := by
  have e : w.slt 0#32 = false := by
    simp only [BitVec.slt, decide_eq_false_iff_not]
    rw [BitVec.toInt_eq_toNat_cond]
    simp; omega
  simp [IntOp.cmpi, e]

/-- The printed step on a whole array of words: `v + n` where `v` is negative, `v` elsewhere. -/
abbrev wrapped (v : IVec S192x56x56 32) (n : BitVec 32) : IVec S192x56x56 32 :=
  select (cmpi .slt v (broadcastInDim S192x56x56 ![] bcast_S_S192x56x56 (constantI S_ 32 0#32)))
    (addi v (broadcastInDim S192x56x56 ![] bcast_S_S192x56x56 (constantI S_ 32 n))) v

theorem wrapped_at (v : IVec S192x56x56 32) (n : BitVec 32) (k : Pt) (hk : (v k).toNat < 2 ^ 31) : wrapped v n k = v k :=
  if_neg (wrap_small (v k) n hk)

/-- An index array with a unit axis behind, and the three of them in a list. -/
abbrev column (v : IVec S192x56x56 32) : IVec S192x56x56x1 32 := broadcastInDim S192x56x56x1 ![0, 1, 2] bcast_S192x56x56_S192x56x56x1_0_1_2 v
abbrev columns (a b c : IVec S192x56x56 32) : List ((s : Shape) × (s.Idx → BitVec 32)) :=
  [⟨S192x56x56x1, column a⟩, ⟨S192x56x56x1, column b⟩, ⟨S192x56x56x1, column c⟩]

/-- The three index arrays side by side: at `(k, 0)`, `(k, 1)`, `(k, 2)` the channel, row and column words of the point `k`. -/
abbrev triples (a b c : IVec S192x56x56 32) : IVec S192x56x56x3 32 :=
  concatenate S192x56x56x3 3 (columns a b c) concatenates_S192x56x56x1_S192x56x56x1_S192x56x56x1_S192x56x56x3_d3

abbrev tri (k : Pt) (n : Fin 3) : S192x56x56x3.Idx := ix4 (n0 := 192) (n1 := 56) (n2 := 56) (n3 := 3) (k 0) (k 1) (k 2) n
abbrev col (k : Pt) : S192x56x56x1.Idx := ix4 (n0 := 192) (n1 := 56) (n2 := 56) (n3 := 1) (k 0) (k 1) (k 2) 0

theorem column_at (v : IVec S192x56x56 32) (k : Pt) : column v (col k) = v k := by
  refine broadcastInDim_apply _ _ v _ k fun a => ?_
  match a with
  | ⟨0, _⟩ => rfl
  | ⟨1, _⟩ => rfl
  | ⟨2, _⟩ => rfl

/-- Array `q` of the three, read at `(k, q)`. -/
theorem triples_piece (a b c v : IVec S192x56x56 32) (k : Pt) (q : Nat) (hq : q < 3)
    (hv : (columns a b c)[q]'hq = ⟨S192x56x56x1, column v⟩)
    (hpre : ((((columns a b c).take q).map (·.1)).map fun s => if h : s.rank = S192x56x56x3.rank then s.size ((3 : Fin 4).cast h.symm) else 0).sum = q) :
    triples a b c (tri k ⟨q, hq⟩) = v k := by
  refine (concatenate_apply_piece (t := S192x56x56x3) 3 (columns a b c) _ (tri k ⟨q, hq⟩) q hq S192x56x56x1 _ hv rfl q hpre (col k) ?_ rfl).trans (column_at v k)
  intro e he
  match e with
  | ⟨0, _⟩ => rfl
  | ⟨1, _⟩ => rfl
  | ⟨2, _⟩ => rfl
  | ⟨3, _⟩ => exact absurd rfl he

theorem triples_0 (a b c : IVec S192x56x56 32) (k : Pt) : triples a b c (tri k 0) = a k := triples_piece a b c a k 0 (by decide) rfl rfl
theorem triples_1 (a b c : IVec S192x56x56 32) (k : Pt) : triples a b c (tri k 1) = b k := triples_piece a b c b k 1 (by decide) rfl rfl
theorem triples_2 (a b c : IVec S192x56x56 32) (k : Pt) : triples a b c (tri k 2) = c k := triples_piece a b c c k 2 (by decide) rfl rfl

/-! ## The gather -/

abbrev dims : GatherDims S32x192x56x56 S192x56x56x3 S32x192x56x56 := gather_S32x192x56x56_S192x56x56x3_S32x192x56x56_0_123_n_n_123_3_32111

/-- THE GATHER AT A POINT of image `y 0`: the element of that image at the three words of the point, each read signed and brought
    into its axis. -/
theorem gather_at {α : Type} (x : S32x192x56x56.Idx → α) (idx : IVec S192x56x56x3 32) (y : S32x192x56x56.Idx) :
    Host.gather dims x idx y = x (ix4 (n0 := 32) (n1 := 192) (n2 := 56) (n3 := 56) (y 0)
      ⟨min (idx (tri (ptOf y) 0)).toInt.toNat 191, by omega⟩ ⟨min (idx (tri (ptOf y) 1)).toInt.toNat 55, by omega⟩
      ⟨min (idx (tri (ptOf y) 2)).toInt.toNat 55, by omega⟩) := by
  unfold Host.gather
  congr 1
  funext a
  refine Fin.ext ?_
  show dims.start y idx a + dims.batchCoord y a + dims.offCoord y a = _
  rw [GatherDims.batchCoord_eq_zero _ _ _ List.not_mem_nil]
  have read : ∀ (q : Fin 3) (b : Fin 4) (hb : b ∈ dims.startIndexMap) (hq : (⟨List.idxOf b dims.startIndexMap, List.idxOf_lt_length_iff.2 hb⟩ : Fin 3) = q),
      dims.siIdx y ⟨List.idxOf b dims.startIndexMap, List.idxOf_lt_length_iff.2 hb⟩ = tri (ptOf y) q := by
    intro q b hb hq
    funext e; refine Fin.ext ?_
    subst hq
    match e with
    | ⟨0, _⟩ => rfl
    | ⟨1, _⟩ => rfl
    | ⟨2, _⟩ => rfl
    | ⟨3, _⟩ => rfl
  have axis : ∀ (q : Fin 3) (b : Fin 4) (hb : b ∈ dims.startIndexMap) (_ : b ∈ dims.collapsedSliceDims)
      (_ : (⟨List.idxOf b dims.startIndexMap, List.idxOf_lt_length_iff.2 hb⟩ : Fin 3) = q),
      dims.start y idx b + 0 + dims.offCoord y b = min (idx (tri (ptOf y) q)).toInt.toNat (S32x192x56x56.size b - dims.sliceSizes b) := by
    intro q b hb hc hq
    rw [GatherDims.offCoord_eq_zero _ _ _ (fun h => ((GatherDims.mem_sKept _ _).mp h).1 hc), Nat.add_zero]
    unfold GatherDims.start
    rw [dif_pos hb, read q b hb hq]
  match a with
  | ⟨0, _⟩ =>
    have e0 : dims.start y idx 0 = 0 := dif_neg (by decide)
    refine (congrArg (fun n => n + 0 + dims.offCoord y 0) e0).trans ?_
    show 0 + 0 + dims.offCoord y 0 = _
    rw [Nat.add_zero, Nat.zero_add]
    rfl
  | ⟨1, _⟩ => exact axis 0 1 (by decide) (by decide) rfl
  | ⟨2, _⟩ => exact axis 1 2 (by decide) (by decide) rfl
  | ⟨3, _⟩ => exact axis 2 3 (by decide) (by decide) rfl

/-! ## The result -/

/-- A per-image array laid over the batch reads, at a point of the batch, the array at the point of the image. -/
theorem over_batch {α : Type} (v : S192x56x56.Idx → α) (y : S32x192x56x56.Idx) :
    broadcastInDim S32x192x56x56 ![0, 1, 2, 3] bcast_S1x192x56x56_S32x192x56x56_0_1_2_3
      (broadcastInDim S1x192x56x56 ![1, 2, 3] bcast_S192x56x56_S1x192x56x56_1_2_3 v) y = v (ptOf y) := by
  refine (broadcastInDim_apply _ _ _ y (ix4 (n0 := 1) (n1 := 192) (n2 := 56) (n3 := 56) 0 (y 1) (y 2) (y 3)) fun a => ?_).trans
    (broadcastInDim_apply _ _ v _ (ptOf y) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The reference's gather of `x` at the channel, row and column words. -/
abbrev gathered {α : Type} (x : S32x192x56x56.Idx → α) (p : IVec S2x192x56x56 32) (c : IVec S192x56x56 32) : S32x192x56x56.Idx → α :=
  Host.gather dims x (triples (wrapped c 192#32)
    (wrapped (shapeCast S192x56x56 (extractStridedSlice S1x192x56x56 ![0, 0, 0, 0] p slices_S2x192x56x56_S1x192x56x56_0_0_0_0) shapeCasts_S1x192x56x56_S192x56x56) 56#32)
    (wrapped (shapeCast S192x56x56 (extractStridedSlice S1x192x56x56 ![1, 0, 0, 0] p slices_S2x192x56x56_S1x192x56x56_1_0_0_0) shapeCasts_S1x192x56x56_S192x56x56) 56#32))

/-- With rows and columns in the plane and each channel its own, the gather at `y` reads `x` in `y`'s own plane. -/
theorem gathered_at {α : Type} (x : S32x192x56x56.Idx → α) (p : IVec S2x192x56x56 32) (c : IVec S192x56x56 32)
    (hp : ∀ i, (p i).toNat < 56) (hc : ∀ k : Pt, c k = BitVec.ofNat 32 (k 0).val) (y : S32x192x56x56.Idx) :
    gathered x p c y = x (inPlane y ⟨(p (entry 0 (ptOf y))).toNat, hp _⟩ ⟨(p (entry 1 (ptOf y))).toNat, hp _⟩) := by
  have h1 : (y 1).val < 192 := (y 1).isLt
  have hr := hp (entry 0 (ptOf y))
  have hq := hp (entry 1 (ptOf y))
  have ec : (c (ptOf y)).toNat = (y 1).val := by
    rw [hc, BitVec.toNat_ofNat]
    show (y 1).val % 2 ^ 32 = _
    omega
  have clamp : ∀ (v w : BitVec 32) (n : Nat), v = w → w.toNat ≤ n → n < 2 ^ 31 → min v.toInt.toNat n = w.toNat := fun v w n e hw hn => by
    rw [e, BitVec.toInt_eq_toNat_cond, if_pos (by omega)]; simp; omega
  have lt : ∀ n : Nat, n < 192 → n < 2 ^ 31 := fun n h => by omega
  refine (gather_at x _ y).trans (congrArg x (funext fun a => Fin.ext ?_))
  match a with
  | ⟨0, _⟩ => rfl
  | ⟨1, _⟩ => exact (clamp _ (c (ptOf y)) 191 ((triples_0 _ _ _ _).trans (wrapped_at _ _ _ (by rw [ec]; exact lt _ h1))) (by rw [ec]; omega) (by decide)).trans ec
  | ⟨2, _⟩ =>
    exact clamp _ (p (entry 0 (ptOf y))) 55 ((triples_1 _ _ _ _).trans ((wrapped_at _ _ _ (by rw [slice_rows]; exact lt _ (by omega))).trans (slice_rows _ _ _ _))) (by omega) (by decide)
  | ⟨3, _⟩ =>
    exact clamp _ (p (entry 1 (ptOf y))) 55 ((triples_2 _ _ _ _).trans ((wrapped_at _ _ _ (by rw [slice_cols]; exact lt _ (by omega))).trans (slice_cols _ _ _ _))) (by omega) (by decide)

/-- The reference's result as one function of its arguments, over the extended reals. -/
abbrev ref (x : FVec Ideal S32x192x56x56 .f32) (g : FVec Ideal S192x56x56 .f32) (p : IVec S2x192x56x56 32) (c : IVec S192x56x56 32) :
    FVec Ideal S32x192x56x56 .f32 :=
  mulf x (uitofp .f32 (cmpf .ogt
    (addf
      (mulf x (broadcastInDim S32x192x56x56 ![0, 1, 2, 3] bcast_S1x192x56x56_S32x192x56x56_0_1_2_3
        (broadcastInDim S1x192x56x56 ![1, 2, 3] bcast_S192x56x56_S1x192x56x56_1_2_3 (subf (broadcastInDim S192x56x56 ![] bcast_S_S192x56x56 (constant S_ .f32 0x3F800000#32)) g))))
      (mulf (gathered x p c) (broadcastInDim S32x192x56x56 ![0, 1, 2, 3] bcast_S1x192x56x56_S32x192x56x56_0_1_2_3
        (broadcastInDim S1x192x56x56 ![1, 2, 3] bcast_S192x56x56_S1x192x56x56_1_2_3 g))))
    (broadcastInDim S32x192x56x56 ![] bcast_S_S32x192x56x56 (constant S_ .f32 0x00000000#32))))

/-- The kernel's select and the reference's product by 0 or 1 give one extended real. -/
theorem gate_mul (x i g : EReal) :
    (Cert.Proof.Ideal.gate (F := Ideal) x i g : EReal)
      = x * (((Ideal.cmp .ogt (x * (Ideal.ofBits .f32 0x3F800000#32 - i) + g * i) (Ideal.ofBits .f32 0x00000000#32)).toNat : ℝ) : EReal) := by
  show (if Ideal.cmp .ogt (x * (Ideal.ofBits .f32 0x3F800000#32 - i) + g * i) (Ideal.ofBits .f32 0x00000000#32) = 1#1 then x else Ideal.ofBits .f32 0x00000000#32) = _
  generalize hc : Ideal.cmp .ogt (x * (Ideal.ofBits .f32 0x3F800000#32 - i) + g * i) (Ideal.ofBits .f32 0x00000000#32) = b
  rcases BitVec.eq_zero_or_eq_one b with rfl | rfl
  · rw [if_neg (by decide), Ideal.ofBits_zero_f32]; simp
  · rw [if_pos rfl]; simp

/-- THE REFERENCE AT A POINT is the gated value of `x` there, of the gate and of the element of its own plane that the prototype names. -/
theorem ref_at (x : FVec Ideal S32x192x56x56 .f32) (g : FVec Ideal S192x56x56 .f32) (p : IVec S2x192x56x56 32) (c : IVec S192x56x56 32)
    (hp : ∀ i, (p i).toNat < 56) (hc : ∀ k : Pt, c k = BitVec.ofNat 32 (k 0).val) (y : S32x192x56x56.Idx) :
    ref x g p c y = Cert.Proof.Ideal.gate (F := Ideal) (x y) (g (ptOf y))
      (x (inPlane y ⟨(p (entry 0 (ptOf y))).toNat, hp _⟩ ⟨(p (entry 1 (ptOf y))).toNat, hp _⟩)) := by
  rw [← gathered_at x p c hp hc y]
  refine Eq.trans ?_ (gate_mul _ _ _).symm
  show x y * (((Ideal.cmp .ogt (x y * _ + gathered x p c y * _) _).toNat : ℝ) : EReal) = _
  rw [over_batch, over_batch]
  rfl

end Cert.Proof.Reference

end
-- ==== Proof.Claims.lean ====
/-
  The claims: the frames of the kernel at either float instance from the one run, and the equality of the kernel's result with the
  reference's over the extended reals.
-/
module

public import proofs.«01_k».proof.Defs
public import proofs.«01_k».proof.Proof.Gen.Kernel
public import proofs.«01_k».proof.Proof.Gen.ReferenceIdeal.Run
public import proofs.«01_k».proof.Proof.Ideal.Result
public import proofs.«01_k».proof.Proof.Reference

@[expose] public section

noncomputable section

namespace Cert.Proof

open Idealize.ShloMosaic Idealize.SL.Sem
open Cert.Proof.Ideal (run_main V3_arg V3_out QC out argX argG argP dr inputs inputs_ok out_at)

/-! ## The kernel -/

section
open Cert.KernelIdeal

variable {F : FTy → Type} [FloatOps F] [∀ e, Nonempty (Elt F e)]

/-- From a memory whose prototype is below 56 the kernel runs without fault, ends with the result `out`, its arguments as they were
    and every counter at zero; at any float instance. -/
theorem kernel_run (m : (ℓ : Loc nD τ sig) → Buf (Elt F) ℓ) (g : Dev nD → PrngReg) (h : ∀ d i, BitVec.toNat (argP m d i) < 56) :
    θ_run (defs (F := F)) (threads (F := F)) ⟨m, fun _ => 0, g⟩ (fun r => (∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c =>
      ⟨(hr.1 c (dr main_v9) (by decide)).trans (V3_out m c),
       (hr.1 c (dr main_arg0) (by decide)).trans (V3_arg m c main_arg0 (by decide) (by decide) (by decide)),
       (hr.1 c (dr main_arg1) (by decide)).trans (V3_arg m c main_arg1 (by decide) (by decide) (by decide)),
       (hr.1 c (dr main_arg2) (by decide)).trans (V3_arg m c main_arg2 (by decide) (by decide) (by decide)),
       (hr.1 c (dr main_arg3) (by decide)).trans (V3_arg m c main_arg3 (by decide) (by decide) (by decide))⟩, hr.2⟩)
    (run_main m g fun d => inputs_ok m d (h d))

/-- The same without the result: the frame. -/
theorem kernel_frame (m : (ℓ : Loc nD τ sig) → Buf (Elt F) ℓ) (g : Dev nD → PrngReg) (h : ∀ d i, BitVec.toNat (argP m d i) < 56) :
    θ_run (defs (F := F)) (threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ hr => ⟨fun c => (hr.1 c).2, hr.2⟩) (kernel_run m g h)

end

/-- The kernel's frame over words: its program is the idealized one's, read at the words. -/
theorem frame_words : Cert.quiescent_Kernel (hKernel := Cert.Kernel.Gen.facts) (hPre_in_plane := Cert.Pre_in_plane.Gen.facts) := fun m g hpre =>
  kernel_frame (F := Bits) m g fun d i => Ideal.in_plane_lt (F := Bits) _ _ _ _ (hpre d) i

/-- The kernel's frame over the extended reals, under either precondition. -/
theorem frame_ideal : Cert.quiescent_KernelIdeal (hKernelIdeal := Cert.KernelIdeal.Gen.facts) (hPre_in_plane := Cert.Pre_in_plane.Gen.facts) := fun m g hpre =>
  kernel_frame (F := Ideal) m g fun d i => Ideal.in_plane_lt (F := Ideal) _ _ _ _ (hpre d) i
theorem frame_ideal_own : Cert.quiescent_KernelIdeal_pre_own_channel (hKernelIdeal := Cert.KernelIdeal.Gen.facts) (hPre_own_channel := Cert.Pre_own_channel.Gen.facts) :=
  fun m g hpre => kernel_frame (F := Ideal) m g fun d i => Ideal.own_channel_lt (F := Ideal) _ _ _ _ (hpre d) i

/-! ## The reference -/

section
open Cert.ReferenceIdeal Cert.Proof.Reference

/-- The reference leaves its arguments as they were; it declares no counter. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => (hr c).2, sem_eq_zero_of_no_sems (by decide) r.2⟩) (Value.run (F := Ideal) m g)

end

/-- The reference's frame, with and without the precondition of the value claim. -/
theorem frame_reference : Cert.quiescent_ReferenceIdeal (hReferenceIdeal := Cert.ReferenceIdeal.Gen.facts) := fun m g _ => reference_frame m g
theorem frame_reference_own : Cert.quiescent_ReferenceIdeal_pre_own_channel (hReferenceIdeal := Cert.ReferenceIdeal.Gen.facts)
    (hPre_own_channel := Cert.Pre_own_channel.Gen.facts) := fun m g _ => reference_frame m g

/-! ## The two results -/

/-- From arguments that agree and satisfy the precondition, the kernel and the reference end with one result. -/
theorem same_result : Cert.algebraic_KernelIdeal_ReferenceIdeal_pre_own_channel (hKernelIdeal := Cert.KernelIdeal.Gen.facts)
    (hReferenceIdeal := Cert.ReferenceIdeal.Gen.facts) (hPre_own_channel := Cert.Pre_own_channel.Gen.facts) := by
  intro m g m' g' hpre hagree
  have hp : ∀ d i, BitVec.toNat (argP m d i) < 56 := fun d i => Ideal.own_channel_lt (F := Ideal) _ _ _ _ (hpre d) i
  refine ⟨fun c => out m c, (θ_run _ _ _).mono (fun _ hr => hr.1) (kernel_run m g hp),
    (θ_run _ _ _).mono (fun _ hr c => ⟨(hr c).1.trans ?_, (hr c).2⟩) (Cert.ReferenceIdeal.Value.run (F := Ideal) m' g')⟩
  rw [(hagree c).1, (hagree c).2.1, (hagree c).2.2.1, (hagree c).2.2.2]
  funext y
  exact (Reference.ref_at (argX m c) (argG m c) (argP m c) _ (hp c)
    (fun k => Ideal.own_channel_eq (F := Ideal) _ _ _ _ (hpre c) k) y).trans (out_at m c (hp c) y).symm

end Cert.Proof

end
-- ==== Proof.lean ====
/-
  The certificate: the frames of the kernel and of the reference, and the equality of their results over the extended reals, put
  together from `Claims`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_plane
public import proofs.«01_k».proof.Proof.Gen.Pre_own_channel
public import proofs.«01_k».proof.Proof.Claims
public import Idealize.ShloMosaic.Adequacy
public import Idealize.ShloMosaic.Init

@[expose] public section

noncomputable section

namespace Cert.Proof

/-- Everything that is claimed: the kernel's frames over words and over the extended reals, the reference's, that the idealized program
    is the kernel's own, and that kernel and reference compute one function. -/
theorem claim : Cert.Claim :=
  ⟨Cert.Kernel.Gen.facts, Cert.KernelIdeal.Gen.facts, Cert.ReferenceIdeal.Gen.facts, Cert.Pre_in_plane.Gen.facts, Cert.Pre_own_channel.Gen.facts,
    frame_words, frame_ideal, frame_ideal_own, frame_reference, frame_reference_own, trivial, same_result⟩

end Cert.Proof

end
